-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_state [hPre_real_state : Cert.Pre_real_state.Facts] (m : (ℓ : Loc Cert.KernelIdeal.nD Cert.KernelIdeal.τ Cert.KernelIdeal.sig) → Buf (Elt Ideal) ℓ) : Prop :=
  ∀ c : Dev Cert.KernelIdeal.nD,
    (Cert.Pre_real_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_state [hPre_real_state : Cert.Pre_real_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_real_state [hKernelIdeal : Cert.KernelIdeal.Facts] [hPre_real_state : Cert.Pre_real_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_real_state [hReferenceIdeal : Cert.ReferenceIdeal.Facts] [hPre_real_state : Cert.Pre_real_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_real_state [hKernelIdeal : Cert.KernelIdeal.Facts] [hReferenceIdeal : Cert.ReferenceIdeal.Facts] [hPre_real_state : Cert.Pre_real_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v296) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v297) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_real_state : Cert.Pre_real_state.Facts),
    quiescent_Kernel (hKernel := hKernel)
    ∧ quiescent_KernelIdeal (hKernelIdeal := hKernelIdeal)
    ∧ quiescent_KernelIdeal_pre_real_state (hKernelIdeal := hKernelIdeal) (hPre_real_state := hPre_real_state)
    ∧ quiescent_ReferenceIdeal (hReferenceIdeal := hReferenceIdeal)
    ∧ quiescent_ReferenceIdeal_pre_real_state (hReferenceIdeal := hReferenceIdeal) (hPre_real_state := hPre_real_state)
    ∧ preserves_Kernel_KernelIdeal
    ∧ algebraic_KernelIdeal_ReferenceIdeal_pre_real_state (hKernelIdeal := hKernelIdeal) (hReferenceIdeal := hReferenceIdeal) (hPre_real_state := hPre_real_state)
-- ==== Pre_real_state.lean ====
abbrev S256x256 : Shape := ⟨2, ![256, 256]⟩
abbrev S256x1024x256 : Shape := ⟨3, ![256, 1024, 256]⟩
abbrev S256x1x1024 : Shape := ⟨3, ![256, 1, 1024]⟩
abbrev S1x256x256 : Shape := ⟨3, ![1, 256, 256]⟩
abbrev S768x256 : Shape := ⟨2, ![768, 256]⟩
abbrev S768 : Shape := ⟨1, ![768]⟩
abbrev S1292x256 : Shape := ⟨2, ![1292, 256]⟩
abbrev S1292 : Shape := ⟨1, ![1292]⟩
abbrev S_ : Shape := ⟨0, ![]⟩

class Facts : Prop where
  bcast_S_S256x1024x256 : S_.BroadcastsInDim S256x1024x256 (![] : Fin 0 → Fin S256x1024x256.rank)
  reducesTo_S256x1024x256_S_d0_1_2 : S256x1024x256.ReducesTo [0, 1, 2] S_
  h_S_ : 0 < S_.numel
  bcast_S_S1x256x256 : S_.BroadcastsInDim S1x256x256 (![] : Fin 0 → Fin S1x256x256.rank)
  reducesTo_S1x256x256_S_d0_1_2 : S1x256x256.ReducesTo [0, 1, 2] S_
  bcast_S_S1292x256 : S_.BroadcastsInDim S1292x256 (![] : Fin 0 → Fin S1292x256.rank)
  reducesTo_S1292x256_S_d0_1 : S1292x256.ReducesTo [0, 1] S_
  bcast_S_S1292 : S_.BroadcastsInDim S1292 (![] : Fin 0 → Fin S1292.rank)
  reducesTo_S1292_S_d0 : S1292.ReducesTo [0] S_
  bcast_S_S256x1x1024 : S_.BroadcastsInDim S256x1x1024 (![] : Fin 0 → Fin S256x1x1024.rank)
  reducesTo_S256x1x1024_S_d0_1_2 : S256x1x1024.ReducesTo [0, 1, 2] S_

variable [Facts]

def fn_part1 {F : FTy → Type} [FloatOps F] (main_arg2 : FVec F S256x1x1024 .f32) (main_arg3 : FVec F S256x1x1024 .f32) (main_v3 : IVec S_ 1) (main_v7 : IVec S_ 1) (main_v11 : IVec S_ 1) (main_v15 : IVec S_ 1) : IVec S_ 1 :=
  let main_cst_6 : FVec F S_ .f32 := constant S_ .f32 0x00000000#32
  let main_v16 : FVec F S256x1x1024 .f32 := broadcastInDim S256x1x1024 ![] bcast_S_S256x1x1024 main_cst_6
  let main_v17 : IVec S256x1x1024 1 := cmpf .oge main_arg2 main_v16
  let main_c_7 : IVec S_ 1 := constantI S_ 1 1#1
  let main_v18 : IVec S_ 1 := (fun x v => Host.reduce IntOp.andi x v reducesTo_S256x1x1024_S_d0_1_2 h_S_) main_v17 main_c_7
  let main_cst_8 : FVec F S_ .f32 := constant S_ .f32 0x00000000#32
  let main_v19 : FVec F S256x1x1024 .f32 := broadcastInDim S256x1x1024 ![] bcast_S_S256x1x1024 main_cst_8
  let main_v20 : IVec S256x1x1024 1 := cmpf .oge main_arg3 main_v19
  let main_c_9 : IVec S_ 1 := constantI S_ 1 1#1
  let main_v21 : IVec S_ 1 := (fun x v => Host.reduce IntOp.andi x v reducesTo_S256x1x1024_S_d0_1_2 h_S_) main_v20 main_c_9
  let main_v22 : IVec S_ 1 := andi main_v3 main_v7
  let main_v23 : IVec S_ 1 := andi main_v22 main_v11
  let main_v24 : IVec S_ 1 := andi main_v23 main_v15
  let main_v25 : IVec S_ 1 := andi main_v24 main_v18
  let main_v26 : IVec S_ 1 := andi main_v25 main_v21
  main_v26

def fn {F : FTy → Type} [FloatOps F] (main_arg0 : FVec F S256x256 .f32) (main_arg1 : FVec F S256x1024x256 .f32) (main_arg2 : FVec F S256x1x1024 .f32) (main_arg3 : FVec F S256x1x1024 .f32) (main_arg4 : FVec F S1x256x256 .f32) (main_arg5 : FVec F S768x256 .f32) (main_arg6 : FVec F S768x256 .f32) (main_arg7 : FVec F S768 .f32) (main_arg8 : FVec F S768 .f32) (main_arg9 : FVec F S1292x256 .f32) (main_arg10 : FVec F S1292 .f32) : IVec S_ 1 :=
  let main_v0 : FVec F S256x1024x256 .f32 := Host.absf main_arg1
  let main_cst : FVec F S_ .f32 := constant S_ .f32 0x7F800000#32
  let main_v1 : FVec F S256x1024x256 .f32 := broadcastInDim S256x1024x256 ![] bcast_S_S256x1024x256 main_cst
  let main_v2 : IVec S256x1024x256 1 := cmpf .olt main_v0 main_v1
  let main_c : IVec S_ 1 := constantI S_ 1 1#1
  let main_v3 : IVec S_ 1 := (fun x v => Host.reduce IntOp.andi x v reducesTo_S256x1024x256_S_d0_1_2 h_S_) main_v2 main_c
  let main_v4 : FVec F S1x256x256 .f32 := Host.absf main_arg4
  let main_cst_0 : FVec F S_ .f32 := constant S_ .f32 0x7F800000#32
  let main_v5 : FVec F S1x256x256 .f32 := broadcastInDim S1x256x256 ![] bcast_S_S1x256x256 main_cst_0
  let main_v6 : IVec S1x256x256 1 := cmpf .olt main_v4 main_v5
  let main_c_1 : IVec S_ 1 := constantI S_ 1 1#1
  let main_v7 : IVec S_ 1 := (fun x v => Host.reduce IntOp.andi x v reducesTo_S1x256x256_S_d0_1_2 h_S_) main_v6 main_c_1
  let main_v8 : FVec F S1292x256 .f32 := Host.absf main_arg9
  let main_cst_2 : FVec F S_ .f32 := constant S_ .f32 0x7F800000#32
  let main_v9 : FVec F S1292x256 .f32 := broadcastInDim S1292x256 ![] bcast_S_S1292x256 main_cst_2
  let main_v10 : IVec S1292x256 1 := cmpf .olt main_v8 main_v9
  let main_c_3 : IVec S_ 1 := constantI S_ 1 1#1
  let main_v11 : IVec S_ 1 := (fun x v => Host.reduce IntOp.andi x v reducesTo_S1292x256_S_d0_1 h_S_) main_v10 main_c_3
  let main_v12 : FVec F S1292 .f32 := Host.absf main_arg10
  let main_cst_4 : FVec F S_ .f32 := constant S_ .f32 0x7F800000#32
  let main_v13 : FVec F S1292 .f32 := broadcastInDim S1292 ![] bcast_S_S1292 main_cst_4
  let main_v14 : IVec S1292 1 := cmpf .olt main_v12 main_v13
  let main_c_5 : IVec S_ 1 := constantI S_ 1 1#1
  let main_v15 : IVec S_ 1 := (fun x v => Host.reduce IntOp.andi x v reducesTo_S1292_S_d0 h_S_) main_v14 main_c_5
  fn_part1 (F := F) main_arg2 main_arg3 main_v3 main_v7 main_v11 main_v15
-- ==== Kernel.lean ====
abbrev S256x256 : Shape := ⟨2, ![256, 256]⟩
abbrev S256x1024x256 : Shape := ⟨3, ![256, 1024, 256]⟩
abbrev S256x1x1024 : Shape := ⟨3, ![256, 1, 1024]⟩
abbrev S1x256x256 : Shape := ⟨3, ![1, 256, 256]⟩
abbrev S768x256 : Shape := ⟨2, ![768, 256]⟩
abbrev S768 : Shape := ⟨1, ![768]⟩
abbrev S1292x256 : Shape := ⟨2, ![1292, 256]⟩
abbrev S1292 : Shape := ⟨1, ![1292]⟩
abbrev S8x256 : Shape := ⟨2, ![8, 256]⟩
abbrev S8x1024x256 : Shape := ⟨3, ![8, 1024, 256]⟩
abbrev S8x1x1024 : Shape := ⟨3, ![8, 1, 1024]⟩
abbrev S1x8x256 : Shape := ⟨3, ![1, 8, 256]⟩
abbrev S256x768 : Shape := ⟨2, ![256, 768]⟩
abbrev S256x1408 : Shape := ⟨2, ![256, 1408]⟩
abbrev S1x1408 : Shape := ⟨2, ![1, 1408]⟩
abbrev S6x256 : Shape := ⟨2, ![6, 256]⟩
abbrev S116x256 : Shape := ⟨2, ![116, 256]⟩
abbrev S1408x256 : Shape := ⟨2, ![1408, 256]⟩
abbrev S1x1292 : Shape := ⟨2, ![1, 1292]⟩
abbrev S1x256 : Shape := ⟨2, ![1, 256]⟩
abbrev S1x6 : Shape := ⟨2, ![1, 6]⟩
abbrev S1x116 : Shape := ⟨2, ![1, 116]⟩
abbrev S8x1024 : Shape := ⟨2, ![8, 1024]⟩
abbrev S1x1024 : Shape := ⟨2, ![1, 1024]⟩
abbrev S1x1024x256 : Shape := ⟨3, ![1, 1024, 256]⟩
abbrev S1024x256 : Shape := ⟨2, ![1024, 256]⟩
abbrev S1x768 : Shape := ⟨2, ![1, 768]⟩
abbrev S8x768 : Shape := ⟨2, ![8, 768]⟩
abbrev S8x1408 : Shape := ⟨2, ![8, 1408]⟩
abbrev S8x12 : Shape := ⟨2, ![8, 12]⟩
abbrev S8 : Shape := ⟨1, ![8]⟩
abbrev S8x1 : Shape := ⟨2, ![8, 1]⟩
abbrev S2x256 : Shape := ⟨2, ![2, 256]⟩
abbrev S1024x2 : Shape := ⟨2, ![1024, 2]⟩
abbrev S1x1024x2 : Shape := ⟨3, ![1, 1024, 2]⟩
abbrev S8x1024x2 : Shape := ⟨3, ![8, 1024, 2]⟩
abbrev S8x2x1024 : Shape := ⟨3, ![8, 2, 1024]⟩
abbrev S8x3 : Shape := ⟨2, ![8, 3]⟩
abbrev S8x1023 : Shape := ⟨2, ![8, 1023]⟩
abbrev S8x1024x1 : Shape := ⟨3, ![8, 1024, 1]⟩
abbrev S8x1x256 : Shape := ⟨3, ![8, 1, 256]⟩

abbrev nBuf : Space → Nat
  | .hbm => 15
  | .vmem => 28
  | .smem => 0
  | _ => 0

abbrev bufTy : (tb : Table) → Fin (tcTables nBuf tb) → BufTy
  | .hbm, ⟨0, _⟩ => ⟨S256x256, .f32⟩
  | .hbm, ⟨1, _⟩ => ⟨S256x1024x256, .f32⟩
  | .hbm, ⟨2, _⟩ => ⟨S256x1x1024, .f32⟩
  | .hbm, ⟨3, _⟩ => ⟨S256x1x1024, .f32⟩
  | .hbm, ⟨4, _⟩ => ⟨S1x256x256, .f32⟩
  | .hbm, ⟨5, _⟩ => ⟨S768x256, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S1292x256, .f32⟩
  | .hbm, ⟨10, _⟩ => ⟨S1292, .f32⟩
  | .hbm, ⟨11, _⟩ => ⟨S256x256, .f32⟩
  | .hbm, ⟨12, _⟩ => ⟨S256x1024x256, .f32⟩
  | .hbm, ⟨13, _⟩ => ⟨S256x1x1024, .f32⟩
  | .hbm, ⟨14, _⟩ => ⟨S256x1x1024, .f32⟩
  | .local _ .vmem, ⟨0, _⟩ => ⟨S8x256, .f32⟩
  | .local _ .vmem, ⟨1, _⟩ => ⟨S8x256, .f32⟩
  | .local _ .vmem, ⟨2, _⟩ => ⟨S8x1024x256, .f32⟩
  | .local _ .vmem, ⟨3, _⟩ => ⟨S8x1024x256, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S8x1x1024, .f32⟩
  | .local _ .vmem, ⟨8, _⟩ => ⟨S1x8x256, .f32⟩
  | .local _ .vmem, ⟨9, _⟩ => ⟨S1x8x256, .f32⟩
  | .local _ .vmem, ⟨10, _⟩ => ⟨S768x256, .f32⟩
  | .local _ .vmem, ⟨11, _⟩ => ⟨S768x256, .f32⟩
  | .local _ .vmem, ⟨12, _⟩ => ⟨S768, .f32⟩
  | .local _ .vmem, ⟨13, _⟩ => ⟨S768, .f32⟩
  | .local _ .vmem, ⟨14, _⟩ => ⟨S1292x256, .f32⟩
  | .local _ .vmem, ⟨15, _⟩ => ⟨S1292, .f32⟩
  | .local _ .vmem, ⟨16, _⟩ => ⟨S8x256, .f32⟩
  | .local _ .vmem, ⟨17, _⟩ => ⟨S8x256, .f32⟩
  | .local _ .vmem, ⟨18, _⟩ => ⟨S8x1024x256, .f32⟩
  | .local _ .vmem, ⟨19, _⟩ => ⟨S8x1024x256, .f32⟩
  | .local _ .vmem, ⟨20, _⟩ => ⟨S8x1x1024, .f32⟩
  | .local _ .vmem, ⟨21, _⟩ => ⟨S8x1x1024, .f32⟩
  | .local _ .vmem, ⟨22, _⟩ => ⟨S8x1x1024, .f32⟩
  | .local _ .vmem, ⟨23, _⟩ => ⟨S8x1x1024, .f32⟩
  | .local _ .vmem, ⟨24, _⟩ => ⟨S256x768, .f32⟩
  | .local _ .vmem, ⟨25, _⟩ => ⟨S256x768, .f32⟩
  | .local _ .vmem, ⟨26, _⟩ => ⟨S256x1408, .f32⟩
  | .local _ .vmem, ⟨27, _⟩ => ⟨S1x1408, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1292x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1292 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S256x256 : Shape := ⟨2, ![256, 256]⟩
abbrev S256x1024x256 : Shape := ⟨3, ![256, 1024, 256]⟩
abbrev S256x1x1024 : Shape := ⟨3, ![256, 1, 1024]⟩
abbrev S1x256x256 : Shape := ⟨3, ![1, 256, 256]⟩
abbrev S768x256 : Shape := ⟨2, ![768, 256]⟩
abbrev S768 : Shape := ⟨1, ![768]⟩
abbrev S1292x256 : Shape := ⟨2, ![1292, 256]⟩
abbrev S1292 : Shape := ⟨1, ![1292]⟩
abbrev S256x1x256 : Shape := ⟨3, ![256, 1, 256]⟩
abbrev S2x256x256 : Shape := ⟨3, ![2, 256, 256]⟩
abbrev S0x256x256 : Shape := ⟨3, ![0, 256, 256]⟩
abbrev S_ : Shape := ⟨0, ![]⟩
abbrev S256x768 : Shape := ⟨2, ![256, 768]⟩
abbrev S1x768 : Shape := ⟨2, ![1, 768]⟩
abbrev S256x1292 : Shape := ⟨2, ![256, 1292]⟩
abbrev S1x1292 : Shape := ⟨2, ![1, 1292]⟩
abbrev S256x262 : Shape := ⟨2, ![256, 262]⟩
abbrev S256x774 : Shape := ⟨2, ![256, 774]⟩
abbrev S256x1 : Shape := ⟨2, ![256, 1]⟩
abbrev S256x3 : Shape := ⟨2, ![256, 3]⟩
abbrev S256x1024 : Shape := ⟨2, ![256, 1024]⟩
abbrev S256 : Shape := ⟨1, ![256]⟩
abbrev S256x1024x1 : Shape := ⟨3, ![256, 1024, 1]⟩
abbrev S256x1023 : Shape := ⟨2, ![256, 1023]⟩

abbrev nBuf : Space → Nat
  | .hbm => 429
  | .vmem => 0
  | .smem => 0
  | _ => 0

abbrev hbmTy0_0 (i : Nat) : BufTy := match i % 128 with
  | 0 => ⟨S256x256, .f32⟩
  | 1 => ⟨S256x1024x256, .f32⟩
  | 2 => ⟨S256x1x1024, .f32⟩
  | 3 => ⟨S256x1x1024, .f32⟩
  | 4 => ⟨S1x256x256, .f32⟩
  | 5 => ⟨S768x256, .f32⟩
  | 6 => ⟨S768x256, .f32⟩
  | 7 => ⟨S768, .f32⟩
  | 8 => ⟨S768, .f32⟩
  | 9 => ⟨S1292x256, .f32⟩
  | 10 => ⟨S1292, .f32⟩
  | 11 => ⟨S256x1x256, .f32⟩
  | 12 => ⟨S1x256x256, .f32⟩
  | 13 => ⟨S1x256x256, .f32⟩
  | 14 => ⟨S2x256x256, .f32⟩
  | 15 => ⟨S256x256, .f32⟩
  | 16 => ⟨S0x256x256, .f32⟩
  | 17 => ⟨S2x256x256, .f32⟩
  | 18 => ⟨S_, .f32⟩
  | 19 => ⟨S0x256x256, .f32⟩
  | 20 => ⟨S1x256x256, .f32⟩
  | 21 => ⟨S256x256, .f32⟩
  | 22 => ⟨S256x768, .f32⟩
  | 23 => ⟨S256x768, .f32⟩
  | 24 => ⟨S1x768, .f32⟩
  | 25 => ⟨S256x768, .f32⟩
  | 26 => ⟨S256x768, .f32⟩
  | 27 => ⟨S256x768, .f32⟩
  | 28 => ⟨S256x768, .f32⟩
  | 29 => ⟨S1x768, .f32⟩
  | 30 => ⟨S256x768, .f32⟩
  | 31 => ⟨S256x768, .f32⟩
  | 32 => ⟨S256x256, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S256x256, .f32⟩
  | 39 => ⟨S256x256, .f32⟩
  | 40 => ⟨S256x256, .f32⟩
  | 41 => ⟨S_, .f32⟩
  | 42 => ⟨S256x256, .f32⟩
  | 43 => ⟨S256x256, .f32⟩
  | 44 => ⟨S_, .f32⟩
  | 45 => ⟨S256x256, .f32⟩
  | 46 => ⟨S256x256, .f32⟩
  | 47 => ⟨S256x256, .f32⟩
  | 48 => ⟨S256x256, .f32⟩
  | 49 => ⟨S256x256, .f32⟩
  | 50 => ⟨S_, .f32⟩
  | 51 => ⟨S256x256, .f32⟩
  | 52 => ⟨S256x256, .f32⟩
  | 53 => ⟨S_, .f32⟩
  | 54 => ⟨S256x256, .f32⟩
  | 55 => ⟨S256x256, .f32⟩
  | 56 => ⟨S256x256, .f32⟩
  | 57 => ⟨S256x256, .f32⟩
  | 58 => ⟨S256x256, .f32⟩
  | 59 => ⟨S_, .f32⟩
  | 60 => ⟨S256x256, .f32⟩
  | 61 => ⟨S256x256, .f32⟩
  | 62 => ⟨S256x256, .f32⟩
  | 63 => ⟨S256x256, .f32⟩
  | 64 => ⟨S256x256, .f32⟩
  | 65 => ⟨S1x256x256, .f32⟩
  | 66 => ⟨S256x256, .f32⟩
  | 67 => ⟨S256x768, .f32⟩
  | 68 => ⟨S256x768, .f32⟩
  | 69 => ⟨S1x768, .f32⟩
  | 70 => ⟨S256x768, .f32⟩
  | 71 => ⟨S256x768, .f32⟩
  | 72 => ⟨S256x768, .f32⟩
  | 73 => ⟨S256x768, .f32⟩
  | 74 => ⟨S1x768, .f32⟩
  | 75 => ⟨S256x768, .f32⟩
  | 76 => ⟨S256x768, .f32⟩
  | 77 => ⟨S256x256, .f32⟩
  | 78 => ⟨S256x256, .f32⟩
  | 79 => ⟨S256x256, .f32⟩
  | 80 => ⟨S256x256, .f32⟩
  | 81 => ⟨S256x256, .f32⟩
  | 82 => ⟨S256x256, .f32⟩
  | 83 => ⟨S256x256, .f32⟩
  | 84 => ⟨S256x256, .f32⟩
  | 85 => ⟨S256x256, .f32⟩
  | 86 => ⟨S_, .f32⟩
  | 87 => ⟨S256x256, .f32⟩
  | 88 => ⟨S256x256, .f32⟩
  | 89 => ⟨S_, .f32⟩
  | 90 => ⟨S256x256, .f32⟩
  | 91 => ⟨S256x256, .f32⟩
  | 92 => ⟨S256x256, .f32⟩
  | 93 => ⟨S256x256, .f32⟩
  | 94 => ⟨S256x256, .f32⟩
  | 95 => ⟨S_, .f32⟩
  | 96 => ⟨S256x256, .f32⟩
  | 97 => ⟨S256x256, .f32⟩
  | 98 => ⟨S_, .f32⟩
  | 99 => ⟨S256x256, .f32⟩
  | 100 => ⟨S256x256, .f32⟩
  | 101 => ⟨S256x256, .f32⟩
  | 102 => ⟨S256x256, .f32⟩
  | 103 => ⟨S256x256, .f32⟩
  | 104 => ⟨S_, .f32⟩
  | 105 => ⟨S256x256, .f32⟩
  | 106 => ⟨S256x256, .f32⟩
  | 107 => ⟨S256x256, .f32⟩
  | 108 => ⟨S256x256, .f32⟩
  | 109 => ⟨S256x256, .f32⟩
  | 110 => ⟨S1x256x256, .f32⟩
  | 111 => ⟨S1x256x256, .f32⟩
  | 112 => ⟨S2x256x256, .f32⟩
  | 113 => ⟨S2x256x256, .f32⟩
  | 114 => ⟨S256x1292, .f32⟩
  | 115 => ⟨S256x1292, .f32⟩
  | 116 => ⟨S1x1292, .f32⟩
  | 117 => ⟨S256x1292, .f32⟩
  | 118 => ⟨S256x1292, .f32⟩
  | 119 => ⟨S256x262, .f32⟩
  | 120 => ⟨S256x774, .f32⟩
  | 121 => ⟨S256x256, .f32⟩
  | 122 => ⟨S256x256, .f32⟩
  | 123 => ⟨S256x1, .f32⟩
  | 124 => ⟨S256x1, .f32⟩
  | 125 => ⟨S256x3, .f32⟩
  | 126 => ⟨S256x1, .f32⟩
  | 127 => ⟨S256x1024, .f32⟩
  | _ => ⟨S256x256, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256, .f32⟩
  | 5 => ⟨S256, .f32⟩
  | 6 => ⟨S256, .i1⟩
  | 7 => ⟨S256, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256x256, .f32⟩
  | 16 => ⟨S_, .f32⟩
  | 17 => ⟨S256, .f32⟩
  | 18 => ⟨S256x1, .f32⟩
  | 19 => ⟨S256x1, .f32⟩
  | 20 => ⟨S_, .f32⟩
  | 21 => ⟨S256x1, .f32⟩
  | 22 => ⟨S256x1, .f32⟩
  | 23 => ⟨S256x256, .f32⟩
  | 24 => ⟨S256x256, .f32⟩
  | 25 => ⟨S256x1024x256, .f32⟩
  | 26 => ⟨S_, .f32⟩
  | 27 => ⟨S256x1024, .f32⟩
  | 28 => ⟨S256x1024x1, .f32⟩
  | 29 => ⟨S256x1024x1, .f32⟩
  | 30 => ⟨S_, .f32⟩
  | 31 => ⟨S256x1024x1, .f32⟩
  | 32 => ⟨S256x1024x1, .f32⟩
  | 33 => ⟨S256x1024x256, .f32⟩
  | 34 => ⟨S256x1024x256, .f32⟩
  | 35 => ⟨S256x1024, .f32⟩
  | 36 => ⟨S256x1, .f32⟩
  | 37 => ⟨S256x1024, .f32⟩
  | 38 => ⟨S256x1024, .f32⟩
  | 39 => ⟨S_, .f32⟩
  | 40 => ⟨S256, .f32⟩
  | 41 => ⟨S_, .f32⟩
  | 42 => ⟨S256, .f32⟩
  | 43 => ⟨S256, .f32⟩
  | 44 => ⟨S256x1, .f32⟩
  | 45 => ⟨S256x1024, .f32⟩
  | 46 => ⟨S256x1024, .f32⟩
  | 47 => ⟨S256x1024, .f32⟩
  | 48 => ⟨S_, .f32⟩
  | 49 => ⟨S256, .f32⟩
  | 50 => ⟨S256x1, .f32⟩
  | 51 => ⟨S256x1024, .f32⟩
  | 52 => ⟨S256x1024, .f32⟩
  | 53 => ⟨S256, .f32⟩
  | 54 => ⟨S256, .f32⟩
  | 55 => ⟨S256, .f32⟩
  | 56 => ⟨S_, .f32⟩
  | 57 => ⟨S256, .f32⟩
  | 58 => ⟨S256, .f32⟩
  | 59 => ⟨S_, .f32⟩
  | 60 => ⟨S256, .f32⟩
  | 61 => ⟨S256, .f32⟩
  | 62 => ⟨S256x1, .f32⟩
  | 63 => ⟨S256x1024, .f32⟩
  | 64 => ⟨S256x1024, .f32⟩
  | 65 => ⟨S_, .f32⟩
  | 66 => ⟨S256x1, .f32⟩
  | 67 => ⟨S256x1, .f32⟩
  | 68 => ⟨S256x1024, .f32⟩
  | 69 => ⟨S256x1024, .f32⟩
  | 70 => ⟨S256x1024, .f32⟩
  | 71 => ⟨S_, .f32⟩
  | 72 => ⟨S256, .f32⟩
  | 73 => ⟨S_, .f32⟩
  | 74 => ⟨S256, .f32⟩
  | 75 => ⟨S256, .f32⟩
  | 76 => ⟨S256x1, .f32⟩
  | 77 => ⟨S256x3, .f32⟩
  | 78 => ⟨S256x3, .f32⟩
  | 79 => ⟨S256x3, .f32⟩
  | 80 => ⟨S_, .f32⟩
  | 81 => ⟨S256, .f32⟩
  | 82 => ⟨S256x1, .f32⟩
  | 83 => ⟨S256x3, .f32⟩
  | 84 => ⟨S256x3, .f32⟩
  | 85 => ⟨S256x1, .f32⟩
  | 86 => ⟨S256x1023, .f32⟩
  | 87 => ⟨S256x1, .f32⟩
  | 88 => ⟨S256x1024, .f32⟩
  | 89 => ⟨S256x1024, .f32⟩
  | 90 => ⟨S256x1024, .f32⟩
  | 91 => ⟨S256x1, .f32⟩
  | 92 => ⟨S256x1024, .f32⟩
  | 93 => ⟨S256x1024, .f32⟩
  | 94 => ⟨S256x1024, .f32⟩
  | 95 => ⟨S256x1, .f32⟩
  | 96 => ⟨S256x1, .f32⟩
  | 97 => ⟨S256x1023, .f32⟩
  | 98 => ⟨S256x1024, .f32⟩
  | 99 => ⟨S256x1024, .f32⟩
  | 100 => ⟨S256x1024, .f32⟩
  | 101 => ⟨S256x1024, .f32⟩
  | 102 => ⟨S256, .f32⟩
  | 103 => ⟨S_, .f32⟩
  | 104 => ⟨S256, .f32⟩
  | 105 => ⟨S256, .f32⟩
  | 106 => ⟨S256, .f32⟩
  | 107 => ⟨S256, .f32⟩
  | 108 => ⟨S256, .i1⟩
  | 109 => ⟨S256, .f32⟩
  | 110 => ⟨S256, .f32⟩
  | 111 => ⟨S256, .f32⟩
  | 112 => ⟨S256, .f32⟩
  | 113 => ⟨S256, .f32⟩
  | 114 => ⟨S256, .f32⟩
  | 115 => ⟨S256, .f32⟩
  | 116 => ⟨S256, .f32⟩
  | 117 => ⟨S_, .f32⟩
  | 118 => ⟨S256, .f32⟩
  | 119 => ⟨S256, .f32⟩
  | 120 => ⟨S_, .f32⟩
  | 121 => ⟨S256x1024, .f32⟩
  | 122 => ⟨S256x1024, .f32⟩
  | 123 => ⟨S256x1, .f32⟩
  | 124 => ⟨S256x1024, .f32⟩
  | 125 => ⟨S256x1024, .f32⟩
  | 126 => ⟨S_, .f32⟩
  | 127 => ⟨S256, .f32⟩
  | _ => ⟨S256x256, .f32⟩

abbrev hbmTy0_2 (i : Nat) : BufTy := match i % 128 with
  | 0 => ⟨S256x1, .f32⟩
  | 1 => ⟨S_, .f32⟩
  | 2 => ⟨S256x1, .f32⟩
  | 3 => ⟨S256x1, .f32⟩
  | 4 => ⟨S256x1024, .f32⟩
  | 5 => ⟨S256x1024, .f32⟩
  | 6 => ⟨S256x1x1024, .f32⟩
  | 7 => ⟨S256x256, .f32⟩
  | 8 => ⟨S256x1, .f32⟩
  | 9 => ⟨S256x1, .f32⟩
  | 10 => ⟨S256x3, .f32⟩
  | 11 => ⟨S256x1, .f32⟩
  | 12 => ⟨S256x1024, .f32⟩
  | 13 => ⟨S256, .f32⟩
  | 14 => ⟨S_, .f32⟩
  | 15 => ⟨S256, .f32⟩
  | 16 => ⟨S256, .f32⟩
  | 17 => ⟨S256, .f32⟩
  | 18 => ⟨S256, .f32⟩
  | 19 => ⟨S256, .i1⟩
  | 20 => ⟨S256, .f32⟩
  | 21 => ⟨S256, .f32⟩
  | 22 => ⟨S256, .f32⟩
  | 23 => ⟨S256, .f32⟩
  | 24 => ⟨S256, .f32⟩
  | 25 => ⟨S256, .f32⟩
  | 26 => ⟨S256, .f32⟩
  | 27 => ⟨S256, .f32⟩
  | 28 => ⟨S256x256, .f32⟩
  | 29 => ⟨S_, .f32⟩
  | 30 => ⟨S256, .f32⟩
  | 31 => ⟨S256x1, .f32⟩
  | 32 => ⟨S256x1, .f32⟩
  | 33 => ⟨S_, .f32⟩
  | 34 => ⟨S256x1, .f32⟩
  | 35 => ⟨S256x1, .f32⟩
  | 36 => ⟨S256x256, .f32⟩
  | 37 => ⟨S256x256, .f32⟩
  | 38 => ⟨S256x1024x256, .f32⟩
  | 39 => ⟨S_, .f32⟩
  | 40 => ⟨S256x1024, .f32⟩
  | 41 => ⟨S256x1024x1, .f32⟩
  | 42 => ⟨S256x1024x1, .f32⟩
  | 43 => ⟨S_, .f32⟩
  | 44 => ⟨S256x1024x1, .f32⟩
  | 45 => ⟨S256x1024x1, .f32⟩
  | 46 => ⟨S256x1024x256, .f32⟩
  | 47 => ⟨S256x1024x256, .f32⟩
  | 48 => ⟨S256x1024, .f32⟩
  | 49 => ⟨S256x1, .f32⟩
  | 50 => ⟨S256x1024, .f32⟩
  | 51 => ⟨S256x1024, .f32⟩
  | 52 => ⟨S_, .f32⟩
  | 53 => ⟨S256, .f32⟩
  | 54 => ⟨S_, .f32⟩
  | 55 => ⟨S256, .f32⟩
  | 56 => ⟨S256, .f32⟩
  | 57 => ⟨S256x1, .f32⟩
  | 58 => ⟨S256x1024, .f32⟩
  | 59 => ⟨S256x1024, .f32⟩
  | 60 => ⟨S256x1024, .f32⟩
  | 61 => ⟨S_, .f32⟩
  | 62 => ⟨S256, .f32⟩
  | 63 => ⟨S256x1, .f32⟩
  | 64 => ⟨S256x1024, .f32⟩
  | 65 => ⟨S256x1024, .f32⟩
  | 66 => ⟨S256, .f32⟩
  | 67 => ⟨S256, .f32⟩
  | 68 => ⟨S256, .f32⟩
  | 69 => ⟨S_, .f32⟩
  | 70 => ⟨S256, .f32⟩
  | 71 => ⟨S256, .f32⟩
  | 72 => ⟨S_, .f32⟩
  | 73 => ⟨S256, .f32⟩
  | 74 => ⟨S256, .f32⟩
  | 75 => ⟨S256x1, .f32⟩
  | 76 => ⟨S256x1024, .f32⟩
  | 77 => ⟨S256x1024, .f32⟩
  | 78 => ⟨S_, .f32⟩
  | 79 => ⟨S256x1, .f32⟩
  | 80 => ⟨S256x1, .f32⟩
  | 81 => ⟨S256x1024, .f32⟩
  | 82 => ⟨S256x1024, .f32⟩
  | 83 => ⟨S256x1024, .f32⟩
  | 84 => ⟨S_, .f32⟩
  | 85 => ⟨S256, .f32⟩
  | 86 => ⟨S_, .f32⟩
  | 87 => ⟨S256, .f32⟩
  | 88 => ⟨S256, .f32⟩
  | 89 => ⟨S256x1, .f32⟩
  | 90 => ⟨S256x3, .f32⟩
  | 91 => ⟨S256x3, .f32⟩
  | 92 => ⟨S256x3, .f32⟩
  | 93 => ⟨S_, .f32⟩
  | 94 => ⟨S256, .f32⟩
  | 95 => ⟨S256x1, .f32⟩
  | 96 => ⟨S256x3, .f32⟩
  | 97 => ⟨S256x3, .f32⟩
  | 98 => ⟨S256x1, .f32⟩
  | 99 => ⟨S256x1023, .f32⟩
  | 100 => ⟨S256x1, .f32⟩
  | 101 => ⟨S256x1024, .f32⟩
  | 102 => ⟨S256x1024, .f32⟩
  | 103 => ⟨S256x1024, .f32⟩
  | 104 => ⟨S256x1, .f32⟩
  | 105 => ⟨S256x1024, .f32⟩
  | 106 => ⟨S256x1024, .f32⟩
  | 107 => ⟨S256x1024, .f32⟩
  | 108 => ⟨S256x1, .f32⟩
  | 109 => ⟨S256x1, .f32⟩
  | 110 => ⟨S256x1023, .f32⟩
  | 111 => ⟨S256x1024, .f32⟩
  | 112 => ⟨S256x1024, .f32⟩
  | 113 => ⟨S256x1024, .f32⟩
  | 114 => ⟨S256x1024, .f32⟩
  | 115 => ⟨S256, .f32⟩
  | 116 => ⟨S_, .f32⟩
  | 117 => ⟨S256, .f32⟩
  | 118 => ⟨S256, .f32⟩
  | 119 => ⟨S256, .f32⟩
  | 120 => ⟨S256, .f32⟩
  | 121 => ⟨S256, .i1⟩
  | 122 => ⟨S256, .f32⟩
  | 123 => ⟨S256, .f32⟩
  | 124 => ⟨S256, .f32⟩
  | 125 => ⟨S256, .f32⟩
  | 126 => ⟨S256, .f32⟩
  | 127 => ⟨S256, .f32⟩
  | _ => ⟨S256x256, .f32⟩

abbrev hbmTy0_3 (i : Nat) : BufTy := match i % 128 with
  | 0 => ⟨S256, .f32⟩
  | 1 => ⟨S256, .f32⟩
  | 2 => ⟨S_, .f32⟩
  | 3 => ⟨S256, .f32⟩
  | 4 => ⟨S256, .f32⟩
  | 5 => ⟨S_, .f32⟩
  | 6 => ⟨S256x1024, .f32⟩
  | 7 => ⟨S256x1024, .f32⟩
  | 8 => ⟨S256x1, .f32⟩
  | 9 => ⟨S256x1024, .f32⟩
  | 10 => ⟨S256x1024, .f32⟩
  | 11 => ⟨S_, .f32⟩
  | 12 => ⟨S256, .f32⟩
  | 13 => ⟨S256x1, .f32⟩
  | 14 => ⟨S_, .f32⟩
  | 15 => ⟨S256x1, .f32⟩
  | 16 => ⟨S256x1, .f32⟩
  | 17 => ⟨S256x1024, .f32⟩
  | 18 => ⟨S256x1024, .f32⟩
  | 19 => ⟨S256x256, .f32⟩
  | 20 => ⟨S256x256, .f32⟩
  | 21 => ⟨S256x256, .f32⟩
  | 22 => ⟨S_, .f32⟩
  | 23 => ⟨S256x256, .f32⟩
  | 24 => ⟨S256x256, .f32⟩
  | 25 => ⟨S_, .f32⟩
  | 26 => ⟨S256x256, .f32⟩
  | 27 => ⟨S256x256, .f32⟩
  | 28 => ⟨S256x256, .f32⟩
  | 29 => ⟨S256x1024x1, .f32⟩
  | 30 => ⟨S256x1x256, .f32⟩
  | 31 => ⟨S256x1024x256, .f32⟩
  | 32 => ⟨S256x1024x256, .f32⟩
  | 33 => ⟨S256x1024x256, .f32⟩
  | 34 => ⟨S_, .f32⟩
  | 35 => ⟨S256x1024x256, .f32⟩
  | 36 => ⟨S256x1024x256, .f32⟩
  | 37 => ⟨S256x1024x256, .f32⟩
  | 38 => ⟨S256x1024x1, .f32⟩
  | 39 => ⟨S256x1x256, .f32⟩
  | 40 => ⟨S256x1024x256, .f32⟩
  | 41 => ⟨S256x1024x256, .f32⟩
  | 42 => ⟨S256x1024x256, .f32⟩
  | 43 => ⟨S256x1024x256, .f32⟩
  | 44 => ⟨S256x1x1024, .f32⟩
  | _ => ⟨S256x256, .f32⟩

abbrev hbmTy (i : Nat) : BufTy := match i / 128 with
  | 0 => hbmTy0_0 i
  | 1 => hbmTy0_1 i
  | 2 => hbmTy0_2 i
  | 3 => hbmTy0_3 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_5 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_7 : Ref sig .tc := ⟨.hbm, 95, rfl⟩
abbrev main_v76 : Ref sig .tc := ⟨.hbm, 96, rfl⟩
abbrev main_v77 : Ref sig .tc := ⟨.hbm, 97, rfl⟩
abbrev main_cst_8 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_9 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_call0_cst : Ref sig .tc := ⟨.hbm, 129, rfl⟩
abbrev main_call0_v0 : Ref sig .tc := ⟨.hbm, 130, rfl⟩
abbrev main_call0_v1 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_call0_v5 : Ref sig .tc := ⟨.hbm, 135, rfl⟩
abbrev main_call0_v6 : Ref sig .tc := ⟨.hbm, 136, rfl⟩
abbrev main_call0_v7 : Ref sig .tc := ⟨.hbm, 137, rfl⟩
abbrev main_call0_v8 : Ref sig .tc := ⟨.hbm, 138, rfl⟩
abbrev main_call0_v9 : Ref sig .tc := ⟨.hbm, 139, rfl⟩
abbrev main_call0_v10 : Ref sig .tc := ⟨.hbm, 140, rfl⟩
abbrev main_call0_v11 : Ref sig .tc := ⟨.hbm, 141, rfl⟩
abbrev main_v107 : Ref sig .tc := ⟨.hbm, 142, rfl⟩
abbrev main_call1_v0 : Ref sig .tc := ⟨.hbm, 143, rfl⟩
abbrev main_call1_cst : Ref sig .tc := ⟨.hbm, 144, rfl⟩
abbrev main_call1_v1 : Ref sig .tc := ⟨.hbm, 145, rfl⟩
abbrev main_call1_v2 : Ref sig .tc := ⟨.hbm, 146, rfl⟩
abbrev main_v108 : Ref sig .tc := ⟨.hbm, 147, rfl⟩
abbrev main_cst_10 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call2_v0 : Ref sig .tc := ⟨.hbm, 153, rfl⟩
abbrev main_call2_cst : Ref sig .tc := ⟨.hbm, 154, rfl⟩
abbrev main_call2_v1 : Ref sig .tc := ⟨.hbm, 155, rfl⟩
abbrev main_call2_v2 : Ref sig .tc := ⟨.hbm, 156, rfl⟩
abbrev main_v113 : Ref sig .tc := ⟨.hbm, 157, rfl⟩
abbrev main_cst_11 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_12 : Ref sig .tc := ⟨.hbm, 167, rfl⟩
abbrev main_v122 : Ref sig .tc := ⟨.hbm, 168, rfl⟩
abbrev main_cst_13 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_14 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_15 : Ref sig .tc := ⟨.hbm, 184, rfl⟩
abbrev main_v136 : Ref sig .tc := ⟨.hbm, 185, rfl⟩
abbrev main_v137 : Ref sig .tc := ⟨.hbm, 186, rfl⟩
abbrev main_cst_16 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_17 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_18 : Ref sig .tc := ⟨.hbm, 199, rfl⟩
abbrev main_v148 : Ref sig .tc := ⟨.hbm, 200, rfl⟩
abbrev main_cst_19 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_cst_20 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_call3_v0 : Ref sig .tc := ⟨.hbm, 214, rfl⟩
abbrev main_call3_v1 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_call4_v0 : Ref sig .tc := ⟨.hbm, 224, rfl⟩
abbrev main_call4_v1 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_call5_cst : Ref sig .tc := ⟨.hbm, 231, rfl⟩
abbrev main_call5_v0 : Ref sig .tc := ⟨.hbm, 232, rfl⟩
abbrev main_call5_v1 : Ref sig .tc := ⟨.hbm, 233, rfl⟩
abbrev main_call5_v2 : Ref sig .tc := ⟨.hbm, 234, rfl⟩
abbrev main_call5_v3 : Ref sig .tc := ⟨.hbm, 235, rfl⟩
abbrev main_call5_v4 : Ref sig .tc := ⟨.hbm, 236, rfl⟩
abbrev main_call5_v5 : Ref sig .tc := ⟨.hbm, 237, rfl⟩
abbrev main_call5_v6 : Ref sig .tc := ⟨.hbm, 238, rfl⟩
abbrev main_call5_v7 : Ref sig .tc := ⟨.hbm, 239, rfl⟩
abbrev main_call5_v8 : Ref sig .tc := ⟨.hbm, 240, rfl⟩
abbrev main_call5_v9 : Ref sig .tc := ⟨.hbm, 241, rfl⟩
abbrev main_call5_v10 : Ref sig .tc := ⟨.hbm, 242, rfl⟩
abbrev main_call5_v11 : Ref sig .tc := ⟨.hbm, 243, rfl⟩
abbrev main_v173 : Ref sig .tc := ⟨.hbm, 244, rfl⟩
abbrev main_cst_21 : Ref sig .tc := ⟨.hbm, 245, rfl⟩
abbrev main_v174 : Ref sig .tc := ⟨.hbm, 246, rfl⟩
abbrev main_v175 : Ref sig .tc := ⟨.hbm, 247, rfl⟩
abbrev main_cst_22 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_cst_23 : Ref sig .tc := ⟨.hbm, 254, rfl⟩
abbrev main_v181 : Ref sig .tc := ⟨.hbm, 255, rfl⟩
abbrev main_v182 : Ref sig .tc := ⟨.hbm, 256, rfl⟩
abbrev main_cst_24 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_call6_cst : Ref sig .tc := ⟨.hbm, 270, rfl⟩
abbrev main_call6_v0 : Ref sig .tc := ⟨.hbm, 271, rfl⟩
abbrev main_call6_v1 : Ref sig .tc := ⟨.hbm, 272, rfl⟩
abbrev main_call6_v2 : Ref sig .tc := ⟨.hbm, 273, rfl⟩
abbrev main_call6_v3 : Ref sig .tc := ⟨.hbm, 274, rfl⟩
abbrev main_call6_v4 : Ref sig .tc := ⟨.hbm, 275, rfl⟩
abbrev main_call6_v5 : Ref sig .tc := ⟨.hbm, 276, rfl⟩
abbrev main_call6_v6 : Ref sig .tc := ⟨.hbm, 277, rfl⟩
abbrev main_call6_v7 : Ref sig .tc := ⟨.hbm, 278, rfl⟩
abbrev main_call6_v8 : Ref sig .tc := ⟨.hbm, 279, rfl⟩
abbrev main_call6_v9 : Ref sig .tc := ⟨.hbm, 280, rfl⟩
abbrev main_call6_v10 : Ref sig .tc := ⟨.hbm, 281, rfl⟩
abbrev main_call6_v11 : Ref sig .tc := ⟨.hbm, 282, rfl⟩
abbrev main_v195 : Ref sig .tc := ⟨.hbm, 283, rfl⟩
abbrev main_call7_v0 : Ref sig .tc := ⟨.hbm, 284, rfl⟩
abbrev main_call7_cst : Ref sig .tc := ⟨.hbm, 285, rfl⟩
abbrev main_call7_v1 : Ref sig .tc := ⟨.hbm, 286, rfl⟩
abbrev main_call7_v2 : Ref sig .tc := ⟨.hbm, 287, rfl⟩
abbrev main_v196 : Ref sig .tc := ⟨.hbm, 288, rfl⟩
abbrev main_cst_25 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_call8_v0 : Ref sig .tc := ⟨.hbm, 294, rfl⟩
abbrev main_call8_cst : Ref sig .tc := ⟨.hbm, 295, rfl⟩
abbrev main_call8_v1 : Ref sig .tc := ⟨.hbm, 296, rfl⟩
abbrev main_call8_v2 : Ref sig .tc := ⟨.hbm, 297, rfl⟩
abbrev main_v201 : Ref sig .tc := ⟨.hbm, 298, rfl⟩
abbrev main_cst_26 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_cst_27 : Ref sig .tc := ⟨.hbm, 308, rfl⟩
abbrev main_v210 : Ref sig .tc := ⟨.hbm, 309, rfl⟩
abbrev main_cst_28 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_cst_29 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_cst_30 : Ref sig .tc := ⟨.hbm, 325, rfl⟩
abbrev main_v224 : Ref sig .tc := ⟨.hbm, 326, rfl⟩
abbrev main_v225 : Ref sig .tc := ⟨.hbm, 327, rfl⟩
abbrev main_cst_31 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_cst_32 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_cst_33 : Ref sig .tc := ⟨.hbm, 340, rfl⟩
abbrev main_v236 : Ref sig .tc := ⟨.hbm, 341, rfl⟩
abbrev main_cst_34 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_cst_35 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_v246 : Ref sig .tc := ⟨.hbm, 353, rfl⟩
abbrev main_v247 : Ref sig .tc := ⟨.hbm, 354, rfl⟩
abbrev main_call9_v0 : Ref sig .tc := ⟨.hbm, 355, rfl⟩
abbrev main_call9_v1 : Ref sig .tc := ⟨.hbm, 356, rfl⟩
abbrev main_v248 : Ref sig .tc := ⟨.hbm, 357, rfl⟩
abbrev main_v249 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_call10_v0 : Ref sig .tc := ⟨.hbm, 365, rfl⟩
abbrev main_call10_v1 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_call11_cst : Ref sig .tc := ⟨.hbm, 372, rfl⟩
abbrev main_call11_v0 : Ref sig .tc := ⟨.hbm, 373, rfl⟩
abbrev main_call11_v1 : Ref sig .tc := ⟨.hbm, 374, rfl⟩
abbrev main_call11_v2 : Ref sig .tc := ⟨.hbm, 375, rfl⟩
abbrev main_call11_v3 : Ref sig .tc := ⟨.hbm, 376, rfl⟩
abbrev main_call11_v4 : Ref sig .tc := ⟨.hbm, 377, rfl⟩
abbrev main_call11_v5 : Ref sig .tc := ⟨.hbm, 378, rfl⟩
abbrev main_call11_v6 : Ref sig .tc := ⟨.hbm, 379, rfl⟩
abbrev main_call11_v7 : Ref sig .tc := ⟨.hbm, 380, rfl⟩
abbrev main_call11_v8 : Ref sig .tc := ⟨.hbm, 381, rfl⟩
abbrev main_call11_v9 : Ref sig .tc := ⟨.hbm, 382, rfl⟩
abbrev main_call11_v10 : Ref sig .tc := ⟨.hbm, 383, rfl⟩
abbrev main_call11_v11 : Ref sig .tc := ⟨.hbm, 384, rfl⟩
abbrev main_v261 : Ref sig .tc := ⟨.hbm, 385, rfl⟩
abbrev main_cst_36 : Ref sig .tc := ⟨.hbm, 386, rfl⟩
abbrev main_v262 : Ref sig .tc := ⟨.hbm, 387, rfl⟩
abbrev main_v263 : Ref sig .tc := ⟨.hbm, 388, rfl⟩
abbrev main_cst_37 : Ref sig .tc := ⟨.hbm, 389, rfl⟩
abbrev main_v264 : Ref sig .tc := ⟨.hbm, 390, rfl⟩
abbrev main_v265 : Ref sig .tc := ⟨.hbm, 391, rfl⟩
abbrev main_v266 : Ref sig .tc := ⟨.hbm, 392, rfl⟩
abbrev main_v267 : Ref sig .tc := ⟨.hbm, 393, rfl⟩
abbrev main_v268 : Ref sig .tc := ⟨.hbm, 394, rfl⟩
abbrev main_cst_38 : Ref sig .tc := ⟨.hbm, 395, rfl⟩
abbrev main_v269 : Ref sig .tc := ⟨.hbm, 396, rfl⟩
abbrev main_v270 : Ref sig .tc := ⟨.hbm, 397, rfl⟩
abbrev main_cst_39 : Ref sig .tc := ⟨.hbm, 398, rfl⟩
abbrev main_v271 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_v275 : Ref sig .tc := ⟨.hbm, 403, rfl⟩
abbrev main_v276 : Ref sig .tc := ⟨.hbm, 404, rfl⟩
abbrev main_v277 : Ref sig .tc := ⟨.hbm, 405, rfl⟩
abbrev main_cst_40 : Ref sig .tc := ⟨.hbm, 406, rfl⟩
abbrev main_v278 : Ref sig .tc := ⟨.hbm, 407, rfl⟩
abbrev main_v279 : Ref sig .tc := ⟨.hbm, 408, rfl⟩
abbrev main_cst_41 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_cst_42 : Ref sig .tc := ⟨.hbm, 418, rfl⟩
abbrev main_v288 : Ref sig .tc := ⟨.hbm, 419, rfl⟩
abbrev main_v289 : Ref sig .tc := ⟨.hbm, 420, rfl⟩
abbrev main_v290 : Ref sig .tc := ⟨.hbm, 421, rfl⟩
abbrev main_v291 : Ref sig .tc := ⟨.hbm, 422, rfl⟩
abbrev main_v292 : Ref sig .tc := ⟨.hbm, 423, rfl⟩
abbrev main_v293 : Ref sig .tc := ⟨.hbm, 424, rfl⟩
abbrev main_v294 : Ref sig .tc := ⟨.hbm, 425, rfl⟩
abbrev main_v295 : Ref sig .tc := ⟨.hbm, 426, rfl⟩
abbrev main_v296 : Ref sig .tc := ⟨.hbm, 427, rfl⟩
abbrev main_v297 : Ref sig .tc := ⟨.hbm, 428, rfl⟩

abbrev nD : Nat := 1
abbrev τ : Topo := Topo.v7x

variable {F : FTy → Type} [FloatOps F]
-- ==== Proof.Spec.lean ====
/- The mathematics of one batch row of the memory step, over the extended reals: what the kernel and the
   reference both compute of a row, as functions of the row's entries. -/
module

public import Idealize.ShloMosaic.Lib.Pointwise
public import Idealize.ShloMosaic.Lib.IdealHost

@[expose] public section

noncomputable section

namespace Cert.Proof

open Idealize.ShloMosaic

/-- A vector of one axis as a function of its index. -/
abbrev vec1 {a : ℕ} (v : (⟨1, ![a]⟩ : Shape).Idx → EReal) (i : Fin a) : EReal := v (ix1 i)

/-- A matrix as a function of its two indices. -/
abbrev vec2 {a b : ℕ} (v : (⟨2, ![a, b]⟩ : Shape).Idx → EReal) (i : Fin a) (j : Fin b) : EReal := v (ix2 i j)

/-- An array of three axes as a function of its three indices. -/
abbrev vec3 {a b c : ℕ} (v : (⟨3, ![a, b, c]⟩ : Shape).Idx → EReal) (i : Fin a) (j : Fin b) (k : Fin c) : EReal :=
  v (ix3 i j k)

/-- The stabilising constant of both programs (the float nearest to 1e-12). -/
def eps : EReal := Ideal.ofBits .f32 0x2B8CBCCC#32

/-- The value a running maximum starts from (minus infinity). -/
def low : EReal := Ideal.ofBits .f32 0xFF800000#32

/-- `log (1 + exp x)`, in the form that does not overflow. -/
def softplus (x : EReal) : EReal := max x 0 + Ideal.log1p (Ideal.exp (0 - FloatOps.absf (F := Ideal) (φ := .f32) x))

/-- The largest entry of a row. -/
def rowMax {n : ℕ} (a : Fin n → EReal) : EReal := Finset.univ.fold max low a

/-- The softmax of a row. -/
def softmax {n : ℕ} (a : Fin n → EReal) (i : Fin n) : EReal :=
  Ideal.div (Ideal.exp (a i - rowMax a)) (∑ j, Ideal.exp (a j - rowMax a))

/-- An affine map's entry `j` at the row `v`: the weights `W` indexed by input then output. -/
def affine {k n : ℕ} (W : Fin k → Fin n → EReal) (b : Fin n → EReal) (v : Fin k → EReal) (j : Fin n) : EReal :=
  ∑ i, v i * W i j + b j

/-- Entry `d` of block `q` of the three gate blocks of width 256. -/
def blockCol (q : ℕ) (d : Fin 256) (h : q + 256 ≤ 768 := by decide) : Fin 768 := ⟨q + d.val, by have := d.isLt; omega⟩

/-- One step of the recurrent unit on the row `x` from the state `h`: gates in the order reset, update, new. -/
def gru (Wi Wh : Fin 256 → Fin 768 → EReal) (bi bh : Fin 768 → EReal) (x h : Fin 256 → EReal) (d : Fin 256) : EReal :=
  (1 - Ideal.logistic (affine Wi bi x (blockCol 256 d) + affine Wh bh h (blockCol 256 d)))
      * Ideal.tanh (affine Wi bi x (blockCol 512 d)
          + Ideal.logistic (affine Wi bi x ⟨d.val, by have := d.isLt; omega⟩ + affine Wh bh h ⟨d.val, by have := d.isLt; omega⟩)
            * affine Wh bh h (blockCol 512 d))
    + Ideal.logistic (affine Wi bi x (blockCol 256 d) + affine Wh bh h (blockCol 256 d)) * h d

/-- What the read weights `w` take from the memory. -/
def readOut (w : Fin 1024 → EReal) (mem : Fin 1024 → Fin 256 → EReal) (d : Fin 256) : EReal := ∑ n, w n * mem n d

/-- The controller's state after its two steps: on the input row, then on what was read. -/
def state (Wi Wh : Fin 256 → Fin 768 → EReal) (bi bh : Fin 768 → EReal) (x h : Fin 256 → EReal)
    (w : Fin 1024 → EReal) (mem : Fin 1024 → Fin 256 → EReal) : Fin 256 → EReal :=
  gru Wi Wh bi bh (readOut w mem) (gru Wi Wh bi bh x h)

/-- The stabilised length of a row. -/
def len (v : Fin 256 → EReal) : EReal := Ideal.sqrt (∑ k, v k * v k) + eps

/-- A key scaled to unit length. -/
def unitKey (key : Fin 256 → EReal) (k : Fin 256) : EReal := Ideal.div (key k) (len key)

/-- The similarity of memory row `n` and the key, the memory row's length divided out of the sum. -/
def cosOut (mem : Fin 1024 → Fin 256 → EReal) (key : Fin 256 → EReal) (n : Fin 1024) : EReal :=
  (∑ k, mem n k * unitKey key k) * Ideal.div 1 (len (mem n))

/-- The similarity of memory row `n` and the key, the memory row scaled entry by entry. -/
def cosIn (mem : Fin 1024 → Fin 256 → EReal) (key : Fin 256 → EReal) (n : Fin 1024) : EReal :=
  ∑ k, Ideal.div (mem n k) (len (mem n)) * unitKey key k

/-- Content addressing interpolated with the previous weights. -/
def gated (cos : Fin 1024 → EReal) (beta gate : EReal) (prev : Fin 1024 → EReal) (n : Fin 1024) : EReal :=
  Ideal.logistic gate * softmax (fun i => softplus beta * cos i) n + (1 - Ideal.logistic gate) * prev n

/-- The next entry of a row, around its end. -/
def after (w : Fin 1024 → EReal) (n : Fin 1024) : EReal :=
  if h : n.val < 1023 then w ⟨1 + n.val, by omega⟩ else w ⟨n.val - 1023, by have := n.isLt; omega⟩

/-- The entry before, around the start of the row. -/
def before (w : Fin 1024 → EReal) (n : Fin 1024) : EReal :=
  if h : n.val < 1 then w ⟨1023 + n.val, by omega⟩ else w ⟨n.val - 1, by have := n.isLt; omega⟩

/-- The weights moved by a distribution `s` over one step left, none, one step right. -/
def moved (s : Fin 3 → EReal) (w : Fin 1024 → EReal) (n : Fin 1024) : EReal :=
  s 0 * after w n + s 1 * w n + s 2 * before w n

/-- A row divided by its stabilised sum. -/
def normed (p : Fin 1024 → EReal) (n : Fin 1024) : EReal := Ideal.div (p n) (∑ i, p i + eps)

/-- Sharpening as a power written by exponential and logarithm. -/
def sharpExp (gamma : EReal) (w : Fin 1024 → EReal) (n : Fin 1024) : EReal :=
  Ideal.exp ((1 + softplus gamma) * Ideal.log (w n + eps))

/-- Sharpening as a power. -/
def sharpPow (gamma : EReal) (w : Fin 1024 → EReal) (n : Fin 1024) : EReal :=
  Ideal.pow (w n + eps) (1 + softplus gamma)

/-- The addressing weights of one head before sharpening. -/
def aim (cos : Fin 1024 → EReal) (beta gate : EReal) (shift : Fin 3 → EReal) (prev : Fin 1024 → EReal) : Fin 1024 → EReal :=
  moved (softmax shift) (gated cos beta gate prev)

/-- A head's new weights with the sharpening by exponential and logarithm. -/
def weightsExp (mem : Fin 1024 → Fin 256 → EReal) (key : Fin 256 → EReal) (beta gate : EReal) (shift : Fin 3 → EReal)
    (gamma : EReal) (prev : Fin 1024 → EReal) : Fin 1024 → EReal :=
  normed (sharpExp gamma (aim (cosOut mem key) beta gate shift prev))

/-- A head's new weights with the sharpening as a power. -/
def weightsPow (mem : Fin 1024 → Fin 256 → EReal) (key : Fin 256 → EReal) (beta gate : EReal) (shift : Fin 3 → EReal)
    (gamma : EReal) (prev : Fin 1024 → EReal) : Fin 1024 → EReal :=
  normed (sharpPow gamma (aim (cosIn mem key) beta gate shift prev))

/-- The new memory as a move from the old entry: `wt` the write weights, `er` the erase row, `ad` the added row. -/
def memoryMove (mem : Fin 1024 → Fin 256 → EReal) (wt : Fin 1024 → EReal) (er ad : Fin 256 → EReal) (n : Fin 1024)
    (k : Fin 256) : EReal :=
  mem n k + wt n * (ad k - er k * mem n k)

/-- The new memory as what is kept of the old entry and what is added. -/
def memoryKeep (mem : Fin 1024 → Fin 256 → EReal) (wt : Fin 1024 → EReal) (er ad : Fin 256 → EReal) (n : Fin 1024)
    (k : Fin 256) : EReal :=
  mem n k * (1 - wt n * er k) + wt n * ad k

/-! ## A row of the projection, and what each of its parts is used for

The 1292 entries, in the order of the projection's rows: read key (256), strength, gate, shift (3), sharpening; the same
six for the write head; erase (256), added (256), output (256). -/

/-- The projection of a row's controller state, over the weight arrays as they are given (output index first). -/
def heads (wi wh : (⟨2, ![768, 256]⟩ : Shape).Idx → EReal) (bi bh : (⟨1, ![768]⟩ : Shape).Idx → EReal)
    (pw : (⟨2, ![1292, 256]⟩ : Shape).Idx → EReal) (pb : (⟨1, ![1292]⟩ : Shape).Idx → EReal) (x h : Fin 256 → EReal)
    (w : Fin 1024 → EReal) (mem : Fin 1024 → Fin 256 → EReal) : Fin 1292 → EReal :=
  affine (fun i j => pw (ix2 j i)) (vec1 pb)
    (state (fun i j => wi (ix2 j i)) (fun i j => wh (ix2 j i)) (vec1 bi) (vec1 bh) x h w mem)

/-- `n` consecutive entries of a row's projection, from entry `o` on. -/
def part (o : ℕ) {n : ℕ} (co : Fin 1292 → EReal) (i : Fin n) (ho : o + n ≤ 1292 := by decide) : EReal :=
  co ⟨o + i.val, by have := i.isLt; omega⟩

/-- The read head's new weights, sharpened by exponential and logarithm. -/
def readExp (co : Fin 1292 → EReal) (mem : Fin 1024 → Fin 256 → EReal) (prev : Fin 1024 → EReal) : Fin 1024 → EReal :=
  weightsExp mem (fun i => part 0 co i) (co 256) (co 257) (fun i => part 258 co i) (co 261) prev

/-- The write head's new weights, sharpened by exponential and logarithm. -/
def writeExp (co : Fin 1292 → EReal) (mem : Fin 1024 → Fin 256 → EReal) (prev : Fin 1024 → EReal) : Fin 1024 → EReal :=
  weightsExp mem (fun i => part 262 co i) (co 518) (co 519) (fun i => part 520 co i) (co 523) prev

/-- The read head's new weights, sharpened by a power. -/
def readPow (co : Fin 1292 → EReal) (mem : Fin 1024 → Fin 256 → EReal) (prev : Fin 1024 → EReal) : Fin 1024 → EReal :=
  weightsPow mem (fun i => part 0 co i) (co 256) (co 257) (fun i => part 258 co i) (co 261) prev

/-- The write head's new weights, sharpened by a power. -/
def writePow (co : Fin 1292 → EReal) (mem : Fin 1024 → Fin 256 → EReal) (prev : Fin 1024 → EReal) : Fin 1024 → EReal :=
  weightsPow mem (fun i => part 262 co i) (co 518) (co 519) (fun i => part 520 co i) (co 523) prev

end Cert.Proof
-- ==== Proof.KernelController.lean ====
/- What one block of the kernel computes of the controller: the two recurrent steps and the projection, row by row. -/
module

public import proofs.«01_k».proof.Proof.Gen.KernelIdeal.Skeleton
public import proofs.«01_k».proof.Proof.Spec

@[expose] public section

set_option maxRecDepth 16384

noncomputable section

namespace Cert.Proof

open Idealize.ShloMosaic Idealize.ShloMosaic.TcCoe Idealize.SL.Sem
open Cert.KernelIdeal Cert.KernelIdeal.Gen

section Block

variable (x : Vec Ideal S8x256 .f32) (mem : Vec Ideal S8x1024x256 .f32) (rw : Vec Ideal S8x1x1024 .f32)
  (h : Vec Ideal S1x8x256 .f32) (Wi Wh : Vec Ideal S256x768 .f32) (bi bh : Vec Ideal S768 .f32)
  (P : Vec Ideal S256x1408 .f32) (B : Vec Ideal S1x1408 .f32)

/-- The block's state after the first recurrent step. -/
def blockState1 : FVec Ideal S8x256 .f32 := k0_pay19 h Wi Wh bi bh x

/-- The second step's gate terms from what is read of the memory. -/
def blockGateIn : FVec Ideal S8x768 .f32 :=
  k0_pay20 (k0_pay8 mem rw) (k0_pay9 mem rw) (k0_pay10 mem rw) (k0_pay11 mem rw) (k0_pay12 mem rw) (k0_pay13 mem rw)
    (k0_pay14 mem rw) (k0_pay15 rw) (k0_pay16 mem) (constant S1x256 .f32 0#32) Wi bi

/-- The second step's gate terms from the state. -/
def blockGateState : FVec Ideal S8x768 .f32 := k0_pay21 h Wi Wh bi bh x

/-- The second step's reset gate before its logistic. -/
def blockReset : FVec Ideal S8x256 .f32 :=
  k0_pay22 (k0_pay8 mem rw) (k0_pay9 mem rw) (k0_pay10 mem rw) (k0_pay11 mem rw) (k0_pay12 mem rw) (k0_pay13 mem rw)
    (k0_pay14 mem rw) (k0_pay15 rw) (k0_pay16 mem) (constant S1x256 .f32 0#32) h Wi Wh bi bh x

/-- The projection of the state after both steps. -/
def blockProj : FVec Ideal S8x1408 .f32 :=
  k0_pay23 (blockState1 x h Wi Wh bi bh) (blockGateIn mem rw Wi bi) (blockGateState x h Wi Wh bi bh)
    (blockReset x mem rw h Wi Wh bi bh) P B

/-- Row `r` of the projection: the affine map of the state of row `r` after its two steps. -/
def projRow (r : Fin 8) : Fin 1408 → EReal :=
  affine (vec2 P) (vec2 B 0) (state (vec2 Wi) (vec2 Wh) (vec1 bi) (vec1 bh) (vec2 x r) (vec3 h 0 r) (vec3 rw r 0) (vec3 mem r))

/-- The first step, row by row. -/
theorem blockState1_apply (r : Fin 8) (d : Fin 256) : blockState1 x h Wi Wh bi bh (ix2 r d) =
    gru (vec2 Wi) (vec2 Wh) (vec1 bi) (vec1 bh) (vec2 x r) (vec3 h 0 r) d := by
  unfold blockState1
  pointwise [k0_pay19, k0_pay17, k0_pay18]
  rfl

/-- The gate terms of the second step's input, row by row: each row's read weights against its own memory. -/
theorem blockGateIn_apply (r : Fin 8) (j : Fin 768) : blockGateIn mem rw Wi bi (ix2 r j) =
    affine (vec2 Wi) (vec1 bi) (readOut (vec3 rw r 0) (vec3 mem r)) j := by
  unfold blockGateIn
  pointwise [k0_pay20, k0_pay17, k0_pay8, k0_pay9, k0_pay10, k0_pay11, k0_pay12, k0_pay13, k0_pay14, k0_pay15, k0_pay16,
    k0_pay6]
  unfold affine readOut
  congr 1
  refine Finset.sum_congr rfl fun i _ => ?_
  congr 1
  fin_cases r <;> rfl

/-- The gate terms of the second step's state, row by row. -/
theorem blockGateState_apply (r : Fin 8) (j : Fin 768) : blockGateState x h Wi Wh bi bh (ix2 r j) =
    affine (vec2 Wh) (vec1 bh) (gru (vec2 Wi) (vec2 Wh) (vec1 bi) (vec1 bh) (vec2 x r) (vec3 h 0 r)) j := by
  have hs := blockState1_apply x h Wi Wh bi bh r
  unfold blockState1 at hs
  unfold blockGateState
  pointwise [k0_pay21, k0_pay18]
  simp only [hs]
  rfl

/-- The reset gate's argument is the sum of the first blocks of the two gate terms. -/
theorem blockReset_apply (r : Fin 8) (d : Fin 256) : blockReset x mem rw h Wi Wh bi bh (ix2 r d) =
    blockGateIn mem rw Wi bi (ix2 r ⟨d.val, by have := d.isLt; omega⟩)
      + blockGateState x h Wi Wh bi bh (ix2 r ⟨d.val, by have := d.isLt; omega⟩) := by
  unfold blockReset blockGateIn blockGateState
  unfold k0_pay22
  generalize k0_pay20 (F := Ideal) _ _ _ _ _ _ _ _ _ _ _ _ = a
  generalize k0_pay21 (F := Ideal) _ _ _ _ _ _ = b
  pointwise

/-- The projection, row by row. -/
theorem blockProj_apply (r : Fin 8) (k : Fin 1408) : blockProj x mem rw h Wi Wh bi bh P B (ix2 r k) =
    projRow x mem rw h Wi Wh bi bh P B r k := by
  unfold blockProj
  pointwise [k0_pay23]
  simp only [blockReset_apply, blockState1_apply, blockGateIn_apply, blockGateState_apply]
  rfl

end Block

end Cert.Proof
-- ==== Proof.KernelAddress.lean ====
/- What one block of the kernel computes of the addressing, as functions of the arrays each part takes: the
   similarities with the two keys, the interpolated weights, the shift and the sharpening, and the memory's update. -/
module

public import proofs.«01_k».proof.Proof.KernelController

@[expose] public section

set_option maxRecDepth 16384

noncomputable section

namespace Cert.Proof

open Idealize.ShloMosaic Idealize.ShloMosaic.TcCoe Idealize.SL.Sem
open Cert.KernelIdeal Cert.KernelIdeal.Gen

/-- The inverse lengths of the memory rows. -/
theorem invLen_apply (mem : Vec Ideal S8x1024x256 .f32) (r : Fin 8) (n : Fin 1024) :
    k0_pay29 mem (ix2 r n) = Ideal.div 1 (len (vec3 mem r n)) := by
  pointwise [k0_pay29]
  rfl

/-- The second key scaled to unit length. -/
theorem unitWrite_apply (key : FVec Ideal S8x256 .f32) (sq : FVec Ideal S8 .f32) (r : Fin 8) (k : Fin 256)
    (hsq : sq (ix1 r) = ∑ i, key (ix2 r i) * key (ix2 r i)) : k0_pay32 key sq (ix2 r k) = unitKey (vec2 key r) k := by
  pointwise [k0_pay32]
  rw [hsq]
  rfl

section Similarity

variable (mem : Vec Ideal S8x1024x256 .f32) (kw kr : FVec Ideal S8x256 .f32) (sq : FVec Ideal S8 .f32)

/-- The products of the memory rows with the two keys, all rows of the block. -/
def blockDots : FVec Ideal S8x2x1024 .f32 :=
  k0_pay42 (k0_pay33 mem kw kr sq) (k0_pay34 mem kw kr sq) (k0_pay35 mem kw kr sq) (k0_pay36 mem kw kr sq)
    (k0_pay37 mem kw kr sq) (k0_pay38 mem kw kr sq) (k0_pay39 mem kw kr sq) (k0_pay40 kw kr sq) (k0_pay41 mem)

/-- The products, row by row: the first with the read key, the second with the write key. -/
theorem blockDots_apply (r : Fin 8) (e : Fin 2) (n : Fin 1024) : blockDots mem kw kr sq (ix3 r e n) =
    ∑ k, mem (ix3 r n k) * if e.val < 1 then kr (ix2 r k) else k0_pay32 kw sq (ix2 r k) := by
  unfold blockDots
  generalize hw : k0_pay32 kw sq = w
  pointwise [k0_pay42, k0_pay33, k0_pay34, k0_pay35, k0_pay36, k0_pay37, k0_pay38, k0_pay39, k0_pay40, k0_pay41]
  simp only [hw]
  fin_cases r <;> fin_cases e <;> rfl

end Similarity

/-- The write head's similarities. -/
theorem cosWrite_apply (inv : FVec Ideal S8x1024 .f32) (a b c d e f g : FVec Ideal S1024x2 .f32) (k2 : FVec Ideal S2x256 .f32)
    (m1 : FVec Ideal S1x1024x256 .f32) (r : Fin 8) (n : Fin 1024) :
    k0_pay43 inv a b c d e f g k2 m1 (ix2 r n) = k0_pay42 a b c d e f g k2 m1 (ix3 r 1 n) * inv (ix2 r n) := by
  unfold k0_pay43
  generalize k0_pay42 (F := Ideal) _ _ _ _ _ _ _ _ _ = v
  pointwise

/-- The read head's interpolated weights are the sum of its two terms. -/
theorem gatedRead_apply (s : FVec Ideal S8x12 .f32) (prev inv : FVec Ideal S8x1024 .f32) (a b c d e f g : FVec Ideal S1024x2 .f32)
    (k2 : FVec Ideal S2x256 .f32) (m1 : FVec Ideal S1x1024x256 .f32) (r : Fin 8) (n : Fin 1024) :
    k0_pay47 s inv a b c d e f g k2 m1 (ix2 r n) + k0_pay48 prev s (ix2 r n) =
      gated (fun i => k0_pay42 a b c d e f g k2 m1 (ix3 r 0 i) * inv (ix2 r i)) (s (ix2 r 0)) (s (ix2 r 1)) (vec2 prev r) n := by
  unfold k0_pay47
  generalize k0_pay42 (F := Ideal) _ _ _ _ _ _ _ _ _ = v
  pointwise [k0_pay48, k0_pay46]
  simp only [ne_eq, not_true, if_false]
  rfl

/-- The write head's interpolated weights. -/
theorem gatedWrite_apply (prev : FVec Ideal S8x1024 .f32) (s : FVec Ideal S8x12 .f32) (cos : FVec Ideal S8x1024 .f32)
    (r : Fin 8) (n : Fin 1024) : k0_pay54 prev s cos (ix2 r n) =
      gated (vec2 cos r) (s (ix2 r 6)) (s (ix2 r 7)) (vec2 prev r) n := by
  pointwise [k0_pay54]
  simp only [ne_eq, not_true, if_false]
  rfl

/-- The read head's sharpened weights. -/
theorem sharpRead_apply (sh : FVec Ideal S8x3 .f32) (gam : FVec Ideal S8x1 .f32) (a b : FVec Ideal S8x1024 .f32)
    (r : Fin 8) (n : Fin 1024) : k0_pay49 sh gam a b (ix2 r n) =
      sharpExp (gam (ix2 r 0)) (moved (softmax (vec2 sh r)) fun i => a (ix2 r i) + b (ix2 r i)) n := by
  pointwise [k0_pay49]
  simp only [ne_eq, not_true, if_false]
  rfl

/-- The read head's new weights: the sharpened ones divided by their stabilised sum. -/
theorem newRead_apply (sh : FVec Ideal S8x3 .f32) (gam : FVec Ideal S8x1 .f32) (a b : FVec Ideal S8x1024 .f32)
    (r : Fin 8) (n : Fin 1024) :
    k0_pay52 (k0_pay49 sh gam a b) (k0_pay50 sh gam a b) (k0_pay51 (F := Ideal)) (ix2 r n) =
      normed (sharpExp (gam (ix2 r 0)) (moved (softmax (vec2 sh r)) fun i => a (ix2 r i) + b (ix2 r i))) n := by
  have hp := sharpRead_apply sh gam a b r
  unfold k0_pay50
  generalize k0_pay49 (F := Ideal) _ _ _ _ = v at hp ⊢
  pointwise [k0_pay52, k0_pay51]
  simp only [hp]
  rfl

/-- The write head's shift distribution. -/
theorem shiftWrite_apply (s : FVec Ideal S8x12 .f32) (r : Fin 8) (k : Fin 3) : k0_pay55 s (ix2 r k) =
    softmax (fun i : Fin 3 => s (ix2 r ⟨8 + i.val, by have := i.isLt; omega⟩)) k := by
  pointwise [k0_pay55]
  rfl

/-- The write head's weights moved one place back around the row. -/
theorem afterWrite_apply (prev : FVec Ideal S8x1024 .f32) (s : FVec Ideal S8x12 .f32) (cos : FVec Ideal S8x1024 .f32)
    (r : Fin 8) (n : Fin 1024) : k0_pay56 prev s cos (ix2 r n) = after (vec2 (k0_pay54 prev s cos) r) n := by
  unfold k0_pay56
  generalize k0_pay54 (F := Ideal) _ _ _ = v
  pointwise
  rfl

/-- The write head's last weight. -/
theorem lastWrite_apply (prev : FVec Ideal S8x1024 .f32) (s : FVec Ideal S8x12 .f32) (cos : FVec Ideal S8x1024 .f32)
    (r : Fin 8) : k0_pay57 prev s cos (ix2 r 0) = k0_pay54 prev s cos (ix2 r 1023) := by
  unfold k0_pay57
  generalize k0_pay54 (F := Ideal) _ _ _ = v
  pointwise

/-- The write head's new weights: moved, sharpened and divided by their stabilised sum. -/
theorem newWrite_apply (gam : FVec Ideal S8x1 .f32) (w : FVec Ideal S8x1024 .f32) (sh : FVec Ideal S8x3 .f32)
    (next : FVec Ideal S8x1024 .f32) (last : FVec Ideal S8x1 .f32) (r : Fin 8) (n : Fin 1024)
    (hn : ∀ i, next (ix2 r i) = after (vec2 w r) i) (hl : last (ix2 r 0) = w (ix2 r 1023)) :
    k0_pay58 gam w sh next last (ix2 r n) =
      normed (sharpExp (gam (ix2 r 0)) fun i =>
        sh (ix2 r 0) * after (vec2 w r) i + sh (ix2 r 1) * w (ix2 r i) + sh (ix2 r 2) * before (vec2 w r) i) n := by
  unfold k0_pay58
  generalize hc : concatenate S8x1024 1 _ _ = prev
  have hb : ∀ i, prev (ix2 r i) = before (vec2 w r) i := by
    intro i
    rw [← hc]
    pointwise
    unfold before
    split
    · rename_i h
      have h0 : i = 0 := Fin.ext (by simpa using h)
      subst h0
      exact hl
    · rfl
  pointwise
  simp only [ne_eq, not_true, if_false, hb, hn]
  rfl

/-- The read weights stored with a unit axis between. -/
theorem storeRead_apply (w : FVec Ideal S8x1024 .f32) (r : Fin 8) (n : Fin 1024) :
    k0_pay59 w (ix3 r 0 n) = w (ix2 r n) := by
  pointwise [k0_pay59]

/-- The write weights stored with a unit axis between. -/
theorem storeWrite_apply (gam : FVec Ideal S8x1 .f32) (w : FVec Ideal S8x1024 .f32) (sh : FVec Ideal S8x3 .f32)
    (next : FVec Ideal S8x1024 .f32) (last : FVec Ideal S8x1 .f32) (r : Fin 8) (n : Fin 1024) :
    k0_pay60 gam w sh next last (ix3 r 0 n) = k0_pay58 gam w sh next last (ix2 r n) := by
  unfold k0_pay60
  generalize k0_pay58 (F := Ideal) _ _ _ _ _ = v
  pointwise

/-- The memory's update: each entry moves towards the added row by the write weight of its row. -/
theorem newMemory_apply (mem : Vec Ideal S8x1024x256 .f32) (er ad : FVec Ideal S8x256 .f32) (gam : FVec Ideal S8x1 .f32)
    (w : FVec Ideal S8x1024 .f32) (sh : FVec Ideal S8x3 .f32) (next : FVec Ideal S8x1024 .f32) (last : FVec Ideal S8x1 .f32)
    (r : Fin 8) (n : Fin 1024) (k : Fin 256) :
    k0_pay1 mem er ad (k0_pay61 gam w sh next last) (ix3 r n k) =
      mem (ix3 r n k) + k0_pay58 gam w sh next last (ix2 r n) * (ad (ix2 r k) - er (ix2 r k) * mem (ix3 r n k)) := by
  unfold k0_pay61
  generalize k0_pay58 (F := Ideal) _ _ _ _ _ = v
  pointwise [k0_pay1]

end Cert.Proof
-- ==== Proof.KernelBlock.lean ====
/- What one block of the kernel leaves in its four results, row by row, as functions of the block's inputs and of
   what the carried arrays hold. -/
module

public import proofs.«01_k».proof.Proof.KernelAddress

@[expose] public section

set_option maxRecDepth 16384

noncomputable section

namespace Cert.Proof

open Idealize.ShloMosaic Idealize.ShloMosaic.TcCoe Idealize.SL.Sem
open Cert.KernelIdeal Cert.KernelIdeal.Gen

variable (x : Vec Ideal S8x256 .f32) (mem : Vec Ideal S8x1024x256 .f32) (rw ww : Vec Ideal S8x1x1024 .f32)
  (h : Vec Ideal S1x8x256 .f32) (Wi Wh : Vec Ideal S256x768 .f32) (bi bh : Vec Ideal S768 .f32)
  (P : Vec Ideal S256x1408 .f32) (B : Vec Ideal S1x1408 .f32)

/-- The write key of the block. -/
def blockKeyWrite : FVec Ideal S8x256 .f32 :=
  k0_pay24 (blockState1 x h Wi Wh bi bh) (blockGateIn mem rw Wi bi) (blockGateState x h Wi Wh bi bh)
    (blockReset x mem rw h Wi Wh bi bh) P B

/-- The erase rows of the block. -/
def blockErase : FVec Ideal S8x256 .f32 :=
  k0_pay25 (blockState1 x h Wi Wh bi bh) (blockGateIn mem rw Wi bi) (blockGateState x h Wi Wh bi bh)
    (blockReset x mem rw h Wi Wh bi bh) P B

/-- The added rows of the block. -/
def blockAdd : FVec Ideal S8x256 .f32 :=
  k0_pay26 (blockState1 x h Wi Wh bi bh) (blockGateIn mem rw Wi bi) (blockGateState x h Wi Wh bi bh)
    (blockReset x mem rw h Wi Wh bi bh) P B

/-- The output rows of the block. -/
def blockOutput : FVec Ideal S8x256 .f32 :=
  k0_pay27 (blockState1 x h Wi Wh bi bh) (blockGateIn mem rw Wi bi) (blockGateState x h Wi Wh bi bh)
    (blockReset x mem rw h Wi Wh bi bh) P B

/-- The twelve scalars of each row: strength, gate, shift and sharpening of the read head, then of the write head. -/
def blockScalars : FVec Ideal S8x12 .f32 :=
  k0_pay28 (blockState1 x h Wi Wh bi bh) (blockGateIn mem rw Wi bi) (blockGateState x h Wi Wh bi bh)
    (blockReset x mem rw h Wi Wh bi bh) P B

/-- The read key of the block scaled to unit length. -/
def blockUnitRead : FVec Ideal S8x256 .f32 :=
  k0_pay30 (blockState1 x h Wi Wh bi bh) (blockGateIn mem rw Wi bi) (blockGateState x h Wi Wh bi bh)
    (blockReset x mem rw h Wi Wh bi bh) P B

/-- The write key's squared length. -/
def blockSqWrite : FVec Ideal S8 .f32 :=
  k0_pay31 (blockState1 x h Wi Wh bi bh) (blockGateIn mem rw Wi bi) (blockGateState x h Wi Wh bi bh)
    (blockReset x mem rw h Wi Wh bi bh) P B

/-- The write key is a slice of the projection. -/
theorem blockKeyWrite_apply (r : Fin 8) (k : Fin 256) : blockKeyWrite x mem rw h Wi Wh bi bh P B (ix2 r k) =
    projRow x mem rw h Wi Wh bi bh P B r ⟨256 + k.val, by have := k.isLt; omega⟩ := by
  rw [← blockProj_apply]
  unfold blockKeyWrite k0_pay24 blockProj
  generalize k0_pay23 (F := Ideal) _ _ _ _ _ _ = v
  pointwise

/-- The erase row is the logistic of a slice of the projection. -/
theorem blockErase_apply (r : Fin 8) (k : Fin 256) : blockErase x mem rw h Wi Wh bi bh P B (ix2 r k) =
    Ideal.logistic (projRow x mem rw h Wi Wh bi bh P B r ⟨512 + k.val, by have := k.isLt; omega⟩) := by
  rw [← blockProj_apply]
  unfold blockErase k0_pay25 blockProj
  generalize k0_pay23 (F := Ideal) _ _ _ _ _ _ = v
  pointwise

/-- The added row is a slice of the projection. -/
theorem blockAdd_apply (r : Fin 8) (k : Fin 256) : blockAdd x mem rw h Wi Wh bi bh P B (ix2 r k) =
    projRow x mem rw h Wi Wh bi bh P B r ⟨768 + k.val, by have := k.isLt; omega⟩ := by
  rw [← blockProj_apply]
  unfold blockAdd k0_pay26 blockProj
  generalize k0_pay23 (F := Ideal) _ _ _ _ _ _ = v
  pointwise

/-- The output row is a slice of the projection. -/
theorem blockOutput_apply (r : Fin 8) (k : Fin 256) : blockOutput x mem rw h Wi Wh bi bh P B (ix2 r k) =
    projRow x mem rw h Wi Wh bi bh P B r ⟨1024 + k.val, by have := k.isLt; omega⟩ := by
  rw [← blockProj_apply]
  unfold blockOutput k0_pay27 blockProj
  generalize k0_pay23 (F := Ideal) _ _ _ _ _ _ = v
  pointwise

/-- The scalars are a slice of the projection. -/
theorem blockScalars_apply (r : Fin 8) (k : Fin 12) : blockScalars x mem rw h Wi Wh bi bh P B (ix2 r k) =
    projRow x mem rw h Wi Wh bi bh P B r ⟨1280 + k.val, by have := k.isLt; omega⟩ := by
  rw [← blockProj_apply]
  unfold blockScalars k0_pay28 blockProj
  generalize k0_pay23 (F := Ideal) _ _ _ _ _ _ = v
  pointwise

/-- The read key scaled to unit length, the key a slice of the projection. -/
theorem blockUnitRead_apply (r : Fin 8) (k : Fin 256) : blockUnitRead x mem rw h Wi Wh bi bh P B (ix2 r k) =
    unitKey (fun i => projRow x mem rw h Wi Wh bi bh P B r ⟨i.val, by have := i.isLt; omega⟩) k := by
  simp only [← blockProj_apply]
  unfold blockUnitRead k0_pay30 blockProj
  generalize k0_pay23 (F := Ideal) _ _ _ _ _ _ = v
  pointwise
  rfl

/-- The write key's squared length is the sum of its squared entries. -/
theorem blockSqWrite_apply (r : Fin 8) : blockSqWrite x mem rw h Wi Wh bi bh P B (ix1 r) =
    ∑ i, blockKeyWrite x mem rw h Wi Wh bi bh P B (ix2 r i) * blockKeyWrite x mem rw h Wi Wh bi bh P B (ix2 r i) := by
  unfold blockSqWrite k0_pay31 blockKeyWrite
  generalize k0_pay24 (F := Ideal) _ _ _ _ _ _ = v
  pointwise

/-- The products with the two keys of the block, times the inverse lengths, are the similarities of the two heads. -/
theorem blockDots_cos (r : Fin 8) (e : Fin 2) (n : Fin 1024) :
    blockDots mem (blockKeyWrite x mem rw h Wi Wh bi bh P B) (blockUnitRead x mem rw h Wi Wh bi bh P B)
        (blockSqWrite x mem rw h Wi Wh bi bh P B) (ix3 r e n) * k0_pay29 mem (ix2 r n) =
      cosOut (vec3 mem r) (if e.val < 1 then
          fun i : Fin 256 => projRow x mem rw h Wi Wh bi bh P B r ⟨i.val, by have := i.isLt; omega⟩
        else fun i : Fin 256 => projRow x mem rw h Wi Wh bi bh P B r ⟨256 + i.val, by have := i.isLt; omega⟩) n := by
  rw [blockDots_apply, invLen_apply]
  unfold cosOut
  congr 1
  refine Finset.sum_congr rfl fun k _ => ?_
  congr 1
  split
  · exact blockUnitRead_apply x mem rw h Wi Wh bi bh P B r k
  · rw [unitWrite_apply _ _ _ _ (blockSqWrite_apply x mem rw h Wi Wh bi bh P B r)]
    congr 1
    funext i
    exact blockKeyWrite_apply x mem rw h Wi Wh bi bh P B r i

section Heads

variable (s : FVec Ideal S8x12 .f32) (kw kr : FVec Ideal S8x256 .f32) (sq : FVec Ideal S8 .f32)

/-- The read head's new weights over the block's scalars and keys. -/
def headRead : FVec Ideal S8x1024 .f32 :=
  k0_pay52
    (k0_pay49 (k0_pay44 s) (k0_pay45 s)
      (k0_pay47 s (k0_pay29 mem) (k0_pay33 mem kw kr sq) (k0_pay34 mem kw kr sq) (k0_pay35 mem kw kr sq)
        (k0_pay36 mem kw kr sq) (k0_pay37 mem kw kr sq) (k0_pay38 mem kw kr sq) (k0_pay39 mem kw kr sq)
        (k0_pay40 kw kr sq) (k0_pay41 mem))
      (k0_pay48 (k0_pay6 rw) s))
    (k0_pay50 (k0_pay44 s) (k0_pay45 s)
      (k0_pay47 s (k0_pay29 mem) (k0_pay33 mem kw kr sq) (k0_pay34 mem kw kr sq) (k0_pay35 mem kw kr sq)
        (k0_pay36 mem kw kr sq) (k0_pay37 mem kw kr sq) (k0_pay38 mem kw kr sq) (k0_pay39 mem kw kr sq)
        (k0_pay40 kw kr sq) (k0_pay41 mem))
      (k0_pay48 (k0_pay6 rw) s))
    (k0_pay51 (F := Ideal))

/-- The write head's similarities over the block's keys. -/
def headCosWrite : FVec Ideal S8x1024 .f32 :=
  k0_pay43 (k0_pay29 mem) (k0_pay33 mem kw kr sq) (k0_pay34 mem kw kr sq) (k0_pay35 mem kw kr sq)
    (k0_pay36 mem kw kr sq) (k0_pay37 mem kw kr sq) (k0_pay38 mem kw kr sq) (k0_pay39 mem kw kr sq)
    (k0_pay40 kw kr sq) (k0_pay41 mem)

/-- The write head's new weights over the block's scalars and keys. -/
def headWrite : FVec Ideal S8x1024 .f32 :=
  k0_pay58 (k0_pay53 s) (k0_pay54 (k0_pay7 ww) s (headCosWrite mem kw kr sq)) (k0_pay55 s)
    (k0_pay56 (k0_pay7 ww) s (headCosWrite mem kw kr sq)) (k0_pay57 (k0_pay7 ww) s (headCosWrite mem kw kr sq))

/-- The read head's new weights, row by row, over the block's products with the keys. -/
theorem headRead_apply (r : Fin 8) (n : Fin 1024) : headRead mem rw s kw kr sq (ix2 r n) =
    normed (sharpExp (s (ix2 r 5)) (aim (fun i => blockDots mem kw kr sq (ix3 r 0 i) * k0_pay29 mem (ix2 r i)) (s (ix2 r 0))
      (s (ix2 r 1)) (fun i : Fin 3 => s (ix2 r ⟨2 + i.val, by have := i.isLt; omega⟩)) (vec3 rw r 0))) n := by
  unfold headRead
  rw [newRead_apply]
  simp only [gatedRead_apply]
  have h6 : vec2 (k0_pay6 rw) r = vec3 rw r 0 := by
    funext i
    show k0_pay6 rw (ix2 r i) = rw (ix3 r 0 i)
    pointwise [k0_pay6]
  have h44 : vec2 (k0_pay44 s) r = fun i : Fin 3 => s (ix2 r ⟨2 + i.val, by have := i.isLt; omega⟩) := by
    funext i
    show k0_pay44 s (ix2 r i) = _
    pointwise [k0_pay44]
  have h45 : k0_pay45 s (ix2 r 0) = s (ix2 r 5) := by pointwise [k0_pay45]
  rw [h6, h44, h45]
  rfl

/-- The write head's new weights, row by row, over the block's products with the keys. -/
theorem headWrite_apply (r : Fin 8) (n : Fin 1024) : headWrite mem ww s kw kr sq (ix2 r n) =
    normed (sharpExp (s (ix2 r 11)) (aim (fun i => blockDots mem kw kr sq (ix3 r 1 i) * k0_pay29 mem (ix2 r i)) (s (ix2 r 6))
      (s (ix2 r 7)) (fun i : Fin 3 => s (ix2 r ⟨8 + i.val, by have := i.isLt; omega⟩)) (vec3 ww r 0))) n := by
  unfold headWrite
  rw [newWrite_apply _ _ _ _ _ _ _ (afterWrite_apply _ _ _ r) (lastWrite_apply _ _ _ r)]
  have h7 : vec2 (k0_pay7 ww) r = vec3 ww r 0 := by
    funext i
    show k0_pay7 ww (ix2 r i) = ww (ix3 r 0 i)
    pointwise [k0_pay7]
  have h53 : k0_pay53 s (ix2 r 0) = s (ix2 r 11) := by pointwise [k0_pay53]
  have hc : vec2 (headCosWrite mem kw kr sq) r = fun i => blockDots mem kw kr sq (ix3 r 1 i) * k0_pay29 mem (ix2 r i) :=
    funext fun i => cosWrite_apply _ _ _ _ _ _ _ _ _ _ r i
  simp only [shiftWrite_apply, h53]
  have hg : vec2 (k0_pay54 (k0_pay7 ww) s (headCosWrite mem kw kr sq)) r =
      gated (fun i => blockDots mem kw kr sq (ix3 r 1 i) * k0_pay29 mem (ix2 r i)) (s (ix2 r 6)) (s (ix2 r 7)) (vec3 ww r 0) := by
    funext i
    show k0_pay54 _ _ _ (ix2 r i) = _
    rw [gatedWrite_apply, hc, h7]
  simp only [hg]
  have hg' : ∀ i, k0_pay54 (k0_pay7 ww) s (headCosWrite mem kw kr sq) (ix2 r i) = _ := fun i => congrFun hg i
  simp only [hg']
  rfl

end Heads

/-- The read weights the block leaves. -/
def blockRead : FVec Ideal S8x1024 .f32 :=
  headRead mem rw (blockScalars x mem rw h Wi Wh bi bh P B) (blockKeyWrite x mem rw h Wi Wh bi bh P B)
    (blockUnitRead x mem rw h Wi Wh bi bh P B) (blockSqWrite x mem rw h Wi Wh bi bh P B)

/-- The write weights the block leaves. -/
def blockWrite : FVec Ideal S8x1024 .f32 :=
  headWrite mem ww (blockScalars x mem rw h Wi Wh bi bh P B) (blockKeyWrite x mem rw h Wi Wh bi bh P B)
    (blockUnitRead x mem rw h Wi Wh bi bh P B) (blockSqWrite x mem rw h Wi Wh bi bh P B)

/-- The read weights the block leaves, row by row. -/
theorem blockRead_apply (r : Fin 8) (n : Fin 1024) : blockRead x mem rw h Wi Wh bi bh P B (ix2 r n) =
    weightsExp (vec3 mem r)
      (fun i : Fin 256 => projRow x mem rw h Wi Wh bi bh P B r ⟨i.val, by have := i.isLt; omega⟩)
      (projRow x mem rw h Wi Wh bi bh P B r 1280) (projRow x mem rw h Wi Wh bi bh P B r 1281)
      (fun i : Fin 3 => projRow x mem rw h Wi Wh bi bh P B r ⟨1282 + i.val, by have := i.isLt; omega⟩)
      (projRow x mem rw h Wi Wh bi bh P B r 1285) (vec3 rw r 0) n := by
  unfold blockRead
  rw [headRead_apply]
  simp only [blockDots_cos, blockScalars_apply]
  unfold weightsExp
  congr 2

/-- The write weights the block leaves, row by row. -/
theorem blockWrite_apply (r : Fin 8) (n : Fin 1024) : blockWrite x mem rw ww h Wi Wh bi bh P B (ix2 r n) =
    weightsExp (vec3 mem r)
      (fun i : Fin 256 => projRow x mem rw h Wi Wh bi bh P B r ⟨256 + i.val, by have := i.isLt; omega⟩)
      (projRow x mem rw h Wi Wh bi bh P B r 1286) (projRow x mem rw h Wi Wh bi bh P B r 1287)
      (fun i : Fin 3 => projRow x mem rw h Wi Wh bi bh P B r ⟨1288 + i.val, by have := i.isLt; omega⟩)
      (projRow x mem rw h Wi Wh bi bh P B r 1291) (vec3 ww r 0) n := by
  unfold blockWrite
  rw [headWrite_apply]
  simp only [blockDots_cos, blockScalars_apply]
  unfold weightsExp
  congr 2

end Cert.Proof
-- ==== Proof.KernelRow.lean ====
/- What one block of the kernel leaves in its four results when the carried arrays hold the transposed weights: each
   row's results are the ones of the row's own projection. -/
module

public import proofs.«01_k».proof.Proof.KernelBlock

@[expose] public section

set_option maxRecDepth 16384

noncomputable section

namespace Cert.Proof

open Idealize.ShloMosaic Idealize.ShloMosaic.TcCoe Idealize.SL.Sem
open Cert.KernelIdeal Cert.KernelIdeal.Gen

/-- The entry of the given projection that the kernel keeps at entry `p` of its own order. -/
def source (p : ℕ) : ℕ :=
  if p < 256 then p else if p < 512 then p + 6 else if p < 1280 then p + 12 else if p < 1286 then p - 1024 else p - 768

/-- The kernel's projection weights are the given ones, transposed and in its own order. -/
theorem projWeight_apply (pw : Vec Ideal S1292x256 .f32) (k : Fin 256) (p : Fin 1408) (q : Fin 1292) (hp : p.val < 1292)
    (hq : q.val = source p.val) : k0_pay4 pw (ix2 k p) = pw (ix2 q k) := by
  unfold source at hq
  pointwise [k0_pay4]
  split_ifs <;> first
    | (congr 2; apply Fin.ext; simp only; split_ifs at hq <;> omega)
    | (exfalso; omega)

/-- The kernel's projection bias is the given one in its own order. -/
theorem projBias_apply (pb : Vec Ideal S1292 .f32) (p : Fin 1408) (q : Fin 1292) (hp : p.val < 1292)
    (hq : q.val = source p.val) : k0_pay5 pb (ix2 0 p) = pb (ix1 q) := by
  unfold source at hq
  pointwise [k0_pay5]
  split_ifs <;> first
    | (congr 2; apply Fin.ext; simp only; split_ifs at hq <;> omega)
    | (exfalso; omega)

variable (x : Vec Ideal S8x256 .f32) (mem : Vec Ideal S8x1024x256 .f32) (rw ww : Vec Ideal S8x1x1024 .f32)
  (h : Vec Ideal S1x8x256 .f32) (wi wh : Vec Ideal S768x256 .f32) (bi bh : Vec Ideal S768 .f32)
  (pw : Vec Ideal S1292x256 .f32) (pb : Vec Ideal S1292 .f32)

/-- A row's projection in the kernel's order is the row's projection. -/
theorem projRow_source (r : Fin 8) (p : Fin 1408) (q : Fin 1292) (hp : p.val < 1292) (hq : q.val = source p.val) :
    projRow x mem rw h (k0_pay2 wi) (k0_pay3 wh) bi bh (k0_pay4 pw) (k0_pay5 pb) r p =
      heads wi wh bi bh pw pb (vec2 x r) (vec3 h 0 r) (vec3 rw r 0) (vec3 mem r) q := by
  have h2 : vec2 (k0_pay2 wi) = fun i j => wi (ix2 j i) := by
    funext i j
    show k0_pay2 wi (ix2 i j) = _
    pointwise [k0_pay2]
  have h3 : vec2 (k0_pay3 wh) = fun i j => wh (ix2 j i) := by
    funext i j
    show k0_pay3 wh (ix2 i j) = _
    pointwise [k0_pay3]
  unfold projRow heads
  rw [h2, h3]
  unfold affine
  simp only [vec2, vec1, projWeight_apply pw _ p q hp hq, projBias_apply pb p q hp hq]

/-- The row's projection, in the arguments of a block. -/
abbrev rowHeads (r : Fin 8) : Fin 1292 → EReal :=
  heads wi wh bi bh pw pb (vec2 x r) (vec3 h 0 r) (vec3 rw r 0) (vec3 mem r)

/-- The output row. -/
theorem rowOutput (r : Fin 8) (k : Fin 256) :
    blockOutput x mem rw h (k0_pay2 wi) (k0_pay3 wh) bi bh (k0_pay4 pw) (k0_pay5 pb) (ix2 r k) =
      part 1036 (rowHeads x mem rw h wi wh bi bh pw pb r) k := by
  rw [blockOutput_apply]
  exact projRow_source _ _ _ _ _ _ _ _ _ _ r _ _ (by have := k.isLt; simp only; omega)
    (by have := k.isLt; simp only [source]; split_ifs <;> omega)

/-- The read weights of the row. -/
theorem rowRead (r : Fin 8) (n : Fin 1024) :
    blockRead x mem rw h (k0_pay2 wi) (k0_pay3 wh) bi bh (k0_pay4 pw) (k0_pay5 pb) (ix2 r n) =
      readExp (rowHeads x mem rw h wi wh bi bh pw pb r) (vec3 mem r) (vec3 rw r 0) n := by
  have e := projRow_source x mem rw h wi wh bi bh pw pb r
  rw [blockRead_apply]
  unfold readExp
  congr 1
  · funext i
    exact e _ _ (by have := i.isLt; simp only; omega) (by have := i.isLt; simp only [source]; split_ifs <;> omega)
  · exact e _ _ (by decide) (by decide)
  · exact e _ _ (by decide) (by decide)
  · funext i
    exact e _ _ (by have := i.isLt; simp only; omega) (by have := i.isLt; simp only [source]; split_ifs <;> omega)
  · exact e _ _ (by decide) (by decide)

/-- The write weights of the row. -/
theorem rowWrite (r : Fin 8) (n : Fin 1024) :
    blockWrite x mem rw ww h (k0_pay2 wi) (k0_pay3 wh) bi bh (k0_pay4 pw) (k0_pay5 pb) (ix2 r n) =
      writeExp (rowHeads x mem rw h wi wh bi bh pw pb r) (vec3 mem r) (vec3 ww r 0) n := by
  have e := projRow_source x mem rw h wi wh bi bh pw pb r
  rw [blockWrite_apply]
  unfold writeExp
  congr 1
  · funext i
    exact e _ _ (by have := i.isLt; simp only; omega) (by have := i.isLt; simp only [source]; split_ifs <;> omega)
  · exact e _ _ (by decide) (by decide)
  · exact e _ _ (by decide) (by decide)
  · funext i
    exact e _ _ (by have := i.isLt; simp only; omega) (by have := i.isLt; simp only [source]; split_ifs <;> omega)
  · exact e _ _ (by decide) (by decide)

/-- The memory the block leaves: its update by the write weights, over the carried arrays. -/
def blockMemory (Wi Wh : Vec Ideal S256x768 .f32) (P : Vec Ideal S256x1408 .f32) (B : Vec Ideal S1x1408 .f32) :
    FVec Ideal S8x1024x256 .f32 :=
  k0_pay1 mem (blockErase x mem rw h Wi Wh bi bh P B) (blockAdd x mem rw h Wi Wh bi bh P B)
    (k0_pay61 (k0_pay53 (blockScalars x mem rw h Wi Wh bi bh P B))
      (k0_pay54 (k0_pay7 ww) (blockScalars x mem rw h Wi Wh bi bh P B)
        (headCosWrite mem (blockKeyWrite x mem rw h Wi Wh bi bh P B) (blockUnitRead x mem rw h Wi Wh bi bh P B)
          (blockSqWrite x mem rw h Wi Wh bi bh P B)))
      (k0_pay55 (blockScalars x mem rw h Wi Wh bi bh P B))
      (k0_pay56 (k0_pay7 ww) (blockScalars x mem rw h Wi Wh bi bh P B)
        (headCosWrite mem (blockKeyWrite x mem rw h Wi Wh bi bh P B) (blockUnitRead x mem rw h Wi Wh bi bh P B)
          (blockSqWrite x mem rw h Wi Wh bi bh P B)))
      (k0_pay57 (k0_pay7 ww) (blockScalars x mem rw h Wi Wh bi bh P B)
        (headCosWrite mem (blockKeyWrite x mem rw h Wi Wh bi bh P B) (blockUnitRead x mem rw h Wi Wh bi bh P B)
          (blockSqWrite x mem rw h Wi Wh bi bh P B))))

/-- The memory of the row. -/
theorem rowMemory (r : Fin 8) (n : Fin 1024) (k : Fin 256) :
    blockMemory x mem rw ww h bi bh (k0_pay2 wi) (k0_pay3 wh) (k0_pay4 pw) (k0_pay5 pb) (ix3 r n k) =
      memoryMove (vec3 mem r) (writeExp (rowHeads x mem rw h wi wh bi bh pw pb r) (vec3 mem r) (vec3 ww r 0))
        (fun i => Ideal.logistic (part 524 (rowHeads x mem rw h wi wh bi bh pw pb r) i))
        (fun i => part 780 (rowHeads x mem rw h wi wh bi bh pw pb r) i) n k := by
  have hw := rowWrite x mem rw ww h wi wh bi bh pw pb r n
  unfold blockWrite headWrite at hw
  have e := projRow_source x mem rw h wi wh bi bh pw pb r
  have ha : blockAdd x mem rw h (k0_pay2 wi) (k0_pay3 wh) bi bh (k0_pay4 pw) (k0_pay5 pb) (ix2 r k) =
      part 780 (rowHeads x mem rw h wi wh bi bh pw pb r) k := by
    rw [blockAdd_apply]
    exact e _ _ (by have := k.isLt; simp only; omega) (by have := k.isLt; simp only [source]; split_ifs <;> omega)
  have hr : blockErase x mem rw h (k0_pay2 wi) (k0_pay3 wh) bi bh (k0_pay4 pw) (k0_pay5 pb) (ix2 r k) =
      Ideal.logistic (part 524 (rowHeads x mem rw h wi wh bi bh pw pb r) k) := by
    rw [blockErase_apply]
    exact congrArg _ (e _ _ (by have := k.isLt; simp only; omega) (by have := k.isLt; simp only [source]; split_ifs <;> omega))
  unfold blockMemory
  rw [newMemory_apply, hw, ha, hr]
  rfl

end Cert.Proof
-- ==== Proof.KernelArray.lean ====
/- What the kernel's four result arrays hold after the whole run: every row of every array is the row's own result. -/
module

public import proofs.«01_k».proof.Proof.Gen.KernelIdeal.Value
public import proofs.«01_k».proof.Proof.KernelRow
public import Idealize.ShloMosaic.Lib.Pipeline.ValueKit
public import Idealize.ShloMosaic.Lib.Pipeline.ReadBack

@[expose] public section

set_option maxRecDepth 16384

noncomputable section

namespace Cert.Proof

open Idealize.ShloMosaic Idealize.ShloMosaic.TcCoe Idealize.SL.Sem
open Cert.KernelIdeal Cert.KernelIdeal.Gen

/-- Where each window's block lies at each grid point: the batch axis moves with the point, the weights stay. -/
theorem idx : ∀ t : Fin cfg0.N, t.val < 32
    ∧ (win0_0.index t 0 = t.val ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = 0 ∧ win0_4.index t 1 = t.val ∧ win0_4.index t 2 = 0)
    ∧ (win0_5.index t 0 = 0 ∧ win0_5.index t 1 = 0)
    ∧ (win0_6.index t 0 = 0 ∧ win0_6.index t 1 = 0)
    ∧ win0_7.index t 0 = 0 ∧ win0_8.index t 0 = 0
    ∧ (win0_9.index t 0 = 0 ∧ win0_9.index t 1 = 0)
    ∧ win0_10.index t 0 = 0
    ∧ (win0_11.index t 0 = t.val ∧ win0_11.index t 1 = 0)
    ∧ (win0_12.index t 0 = t.val ∧ win0_12.index t 1 = 0 ∧ win0_12.index t 2 = 0)
    ∧ (win0_13.index t 0 = t.val ∧ win0_13.index t 1 = 0 ∧ win0_13.index t 2 = 0)
    ∧ (win0_14.index t 0 = t.val ∧ win0_14.index t 1 = 0 ∧ win0_14.index t 2 = 0) :=
  (by decide +kernel : ∀ t : Fin grid0.N, _)

variable (m : (ℓ : Loc nD τ sig) → Buf (Elt Ideal) ℓ) (c : Dev nD)

/-- Row `r` of the block of grid point `t`, as a row of the batch. -/
abbrev rowAt (t : Fin cfg0.N) (r : Fin 8) : Fin 256 := ⟨8 * t.val + r.val, by have := (idx t).1; omega⟩

/-! ## The blocks the points read -/

theorem block0 (t : Fin cfg0.N) (r : Fin 8) :
    vec2 (a := 8) (b := 256) (iblk m c 0 t) r = vec2 (a := 256) (b := 256) (m ((c : Thread nD τ).loc main_arg0)) (rowAt t r) := by
  funext k
  show iblk m c 0 t (ix2 r k) = m ((c : Thread nD τ).loc main_arg0) (ix2 (rowAt t r) k)
  blk_ext [iblk, V, idx t]

theorem block1 (t : Fin cfg0.N) (r : Fin 8) : vec3 (a := 8) (b := 1024) (c := 256) (iblk m c 1 t) r =
    vec3 (a := 256) (b := 1024) (c := 256) (m ((c : Thread nD τ).loc main_arg1)) (rowAt t r) := by
  funext n k
  show iblk m c 1 t (ix3 r n k) = m ((c : Thread nD τ).loc main_arg1) (ix3 (rowAt t r) n k)
  blk_ext [iblk, V, idx t]

theorem block2 (t : Fin cfg0.N) (r : Fin 8) : vec3 (a := 8) (b := 1) (c := 1024) (iblk m c 2 t) r 0 =
    vec3 (a := 256) (b := 1) (c := 1024) (m ((c : Thread nD τ).loc main_arg2)) (rowAt t r) 0 := by
  funext n
  show iblk m c 2 t (ix3 r 0 n) = m ((c : Thread nD τ).loc main_arg2) (ix3 (rowAt t r) 0 n)
  blk_ext [iblk, V, idx t]

theorem block3 (t : Fin cfg0.N) (r : Fin 8) : vec3 (a := 8) (b := 1) (c := 1024) (iblk m c 3 t) r 0 =
    vec3 (a := 256) (b := 1) (c := 1024) (m ((c : Thread nD τ).loc main_arg3)) (rowAt t r) 0 := by
  funext n
  show iblk m c 3 t (ix3 r 0 n) = m ((c : Thread nD τ).loc main_arg3) (ix3 (rowAt t r) 0 n)
  blk_ext [iblk, V, idx t]

theorem block4 (t : Fin cfg0.N) (r : Fin 8) : vec3 (a := 1) (b := 8) (c := 256) (iblk m c 4 t) 0 r =
    vec3 (a := 1) (b := 256) (c := 256) (m ((c : Thread nD τ).loc main_arg4)) 0 (rowAt t r) := by
  funext k
  show iblk m c 4 t (ix3 0 r k) = m ((c : Thread nD τ).loc main_arg4) (ix3 0 (rowAt t r) k)
  blk_ext [iblk, V, idx t]

theorem block5 (t : Fin cfg0.N) : iblk m c 5 t = m ((c : Thread nD τ).loc main_arg5) := by blk_ext! [iblk, V, idx t]
theorem block6 (t : Fin cfg0.N) : iblk m c 6 t = m ((c : Thread nD τ).loc main_arg6) := by blk_ext! [iblk, V, idx t]
theorem block7 (t : Fin cfg0.N) : iblk m c 7 t = m ((c : Thread nD τ).loc main_arg7) := by blk_ext! [iblk, V, idx t]
theorem block8 (t : Fin cfg0.N) : iblk m c 8 t = m ((c : Thread nD τ).loc main_arg8) := by blk_ext! [iblk, V, idx t]
theorem block9 (t : Fin cfg0.N) : iblk m c 9 t = m ((c : Thread nD τ).loc main_arg9) := by blk_ext! [iblk, V, idx t]
theorem block10 (t : Fin cfg0.N) : iblk m c 10 t = m ((c : Thread nD τ).loc main_arg10) := by blk_ext! [iblk, V, idx t]

/-! ## The carried arrays -/

/-- The carried arrays after a point hold the transposed weights, whichever point it is: the first fills them and
    no other writes them. -/
theorem carried (n : ℕ) (hn : n < cfg0.N) : (outsAt0 m c n hn).2.2.2.2 =
    (k0_pay2 (m ((c : Thread nD τ).loc main_arg5)), k0_pay3 (m ((c : Thread nD τ).loc main_arg6)),
      k0_pay4 (m ((c : Thread nD τ).loc main_arg9)), k0_pay5 (m ((c : Thread nD τ).loc main_arg10))) := by
  induction n with
  | zero =>
    have h := outsAt0_A m c ⟨0, hn⟩ rfl
    rw [h]
    frame_out
    rw [block5, block6, block9, block10]
  | succ n ih =>
    have hN := (idx ⟨n + 1, hn⟩).1
    have h := outsAt0_B m c ⟨n + 1, hn⟩ (by simp only at hN ⊢; omega)
    rw [h]
    frame_out
    exact ih _

/-! ## What a point leaves in the results' blocks -/

/-- The point's four results as one block's computation over its input blocks and the transposed weights. -/
theorem point_blocks (t : Fin cfg0.N) :
    (outsAt0 m c t.val t.isLt).1 = blockOutput (iblk m c 0 t) (iblk m c 1 t) (iblk m c 2 t) (iblk m c 4 t)
        (k0_pay2 (m ((c : Thread nD τ).loc main_arg5))) (k0_pay3 (m ((c : Thread nD τ).loc main_arg6))) (iblk m c 7 t)
        (iblk m c 8 t) (k0_pay4 (m ((c : Thread nD τ).loc main_arg9))) (k0_pay5 (m ((c : Thread nD τ).loc main_arg10)))
    ∧ (outsAt0 m c t.val t.isLt).2.1 = blockMemory (iblk m c 0 t) (iblk m c 1 t) (iblk m c 2 t) (iblk m c 3 t) (iblk m c 4 t)
        (iblk m c 7 t) (iblk m c 8 t) (k0_pay2 (m ((c : Thread nD τ).loc main_arg5)))
        (k0_pay3 (m ((c : Thread nD τ).loc main_arg6)))
        (k0_pay4 (m ((c : Thread nD τ).loc main_arg9))) (k0_pay5 (m ((c : Thread nD τ).loc main_arg10)))
    ∧ (outsAt0 m c t.val t.isLt).2.2.1 = k0_pay59 (blockRead (iblk m c 0 t) (iblk m c 1 t) (iblk m c 2 t) (iblk m c 4 t)
        (k0_pay2 (m ((c : Thread nD τ).loc main_arg5))) (k0_pay3 (m ((c : Thread nD τ).loc main_arg6))) (iblk m c 7 t)
        (iblk m c 8 t) (k0_pay4 (m ((c : Thread nD τ).loc main_arg9))) (k0_pay5 (m ((c : Thread nD τ).loc main_arg10))))
    ∧ (outsAt0 m c t.val t.isLt).2.2.2.1 = shapeCast S8x1x1024 (blockWrite (iblk m c 0 t) (iblk m c 1 t) (iblk m c 2 t)
        (iblk m c 3 t) (iblk m c 4 t) (k0_pay2 (m ((c : Thread nD τ).loc main_arg5)))
        (k0_pay3 (m ((c : Thread nD τ).loc main_arg6))) (iblk m c 7 t)
        (iblk m c 8 t) (k0_pay4 (m ((c : Thread nD τ).loc main_arg9))) (k0_pay5 (m ((c : Thread nD τ).loc main_arg10))))
        shapeCasts_S8x1024_S8x1x1024 := by
  by_cases h0 : t.val % 32 = 0
  · rw [outsAt0_A m c t h0, ← block5 m c t, ← block6 m c t, ← block9 m c t, ← block10 m c t]
    refine ⟨?_, ?_, ?_, ?_⟩ <;> (frame_out; rfl)
  · have hs := carried m c (t.val - 1) (by have := t.isLt; omega)
    rw [outsAt0_B m c t h0]
    refine ⟨?_, ?_, ?_, ?_⟩ <;> (frame_out; simp only [read_unread_whole, hs]; rfl)

end Cert.Proof
-- ==== Proof.KernelResult.lean ====
/- The kernel's four result arrays after the whole run, entry by entry. -/
module

public import proofs.«01_k».proof.Proof.KernelArray

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The memory of batch row `R`. -/
abbrev kMem (R : Fin 256) : Fin 1024 → Fin 256 → EReal :=
  vec3 (a := 256) (b := 1024) (c := 256) (m ((c : Thread nD τ).loc main_arg1)) R

/-- The read weights batch row `R` starts from. -/
abbrev kRead (R : Fin 256) : Fin 1024 → EReal :=
  vec3 (a := 256) (b := 1) (c := 1024) (m ((c : Thread nD τ).loc main_arg2)) R 0

/-- The write weights batch row `R` starts from. -/
abbrev kWrite (R : Fin 256) : Fin 1024 → EReal :=
  vec3 (a := 256) (b := 1) (c := 1024) (m ((c : Thread nD τ).loc main_arg3)) R 0

/-- The projection of batch row `R`. -/
def kHeads (R : Fin 256) : Fin 1292 → EReal :=
  heads (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (vec2 (a := 256) (b := 256) (m ((c : Thread nD τ).loc main_arg0)) R)
    (vec3 (a := 1) (b := 256) (c := 256) (m ((c : Thread nD τ).loc main_arg4)) 0 R) (kRead m c R) (kMem m c R)

/-- The row of a block's projection is the batch row's. -/
theorem rowHeads_block (t : Fin cfg0.N) (r : Fin 8) :
    rowHeads (iblk m c 0 t) (iblk m c 1 t) (iblk m c 2 t) (iblk m c 4 t) (m ((c : Thread nD τ).loc main_arg5))
      (m ((c : Thread nD τ).loc main_arg6)) (iblk m c 7 t) (iblk m c 8 t) (m ((c : Thread nD τ).loc main_arg9))
      (m ((c : Thread nD τ).loc main_arg10)) r = kHeads m c (rowAt t r) := by
  unfold rowHeads kHeads kRead kMem
  rw [← block0 m c t r, ← block1 m c t r, ← block2 m c t r, ← block4 m c t r, ← block7 m c t, ← block8 m c t]

/-- The output rows. -/
def kOut : FVec Ideal S256x256 .f32 := fun i => part 1036 (kHeads m c (i 0)) (i 1 : Fin 256)

/-- The new memory. -/
def kNewMem : FVec Ideal S256x1024x256 .f32 := fun i =>
  memoryMove (kMem m c (i 0)) (writeExp (kHeads m c (i 0)) (kMem m c (i 0)) (kWrite m c (i 0)))
    (fun k => Ideal.logistic (part 524 (kHeads m c (i 0)) k)) (fun k => part 780 (kHeads m c (i 0)) k) (i 1) (i 2)

/-- The new read weights. -/
def kNewRead : FVec Ideal S256x1x1024 .f32 := fun i => readExp (kHeads m c (i 0)) (kMem m c (i 0)) (kRead m c (i 0)) (i 2)

/-- The new write weights. -/
def kNewWrite : FVec Ideal S256x1x1024 .f32 := fun i => writeExp (kHeads m c (i 0)) (kMem m c (i 0)) (kWrite m c (i 0)) (i 2)

/-- The output array after the run. -/
theorem array_out : (dats m 0 c).arrAt 11 cfg0.N = kOut m c := by
  refine (dats m 0 c).arrAt_eq_of_covers 11 _ (by decide +kernel) fun t hf y => ?_
  blk_simp
  rw [after0_11, (point_blocks m c t).1]
  idx_vars y
  have e : ((View.whole main_v0_0).slice (win0_11.rect t)).emb (ix2 y0 y1) = ix2 (rowAt t y0) y1 := by blk_ext! [idx t]
  rw [e, rowOutput, rowHeads_block]
  rfl

/-- The memory array after the run. -/
theorem array_mem : (dats m 0 c).arrAt 12 cfg0.N = kNewMem m c := by
  refine (dats m 0 c).arrAt_eq_of_covers 12 _ (by decide +kernel) fun t hf y => ?_
  blk_simp
  rw [after0_12, (point_blocks m c t).2.1]
  idx_vars y
  have e : ((View.whole main_v0_1).slice (win0_12.rect t)).emb (ix3 y0 y1 y2) = ix3 (rowAt t y0) y1 y2 := by
    blk_ext! [idx t]
  rw [e, rowMemory, rowHeads_block, block1, block3]
  rfl

/-- The read weights' array after the run. -/
theorem array_read : (dats m 0 c).arrAt 13 cfg0.N = kNewRead m c := by
  refine (dats m 0 c).arrAt_eq_of_covers 13 _ (by decide +kernel) fun t hf y => ?_
  blk_simp
  rw [after0_13, (point_blocks m c t).2.2.1]
  idx_vars y
  have e : ((View.whole main_v0_2).slice (win0_13.rect t)).emb (ix3 y0 y1 y2) = ix3 (rowAt t y0) y1 y2 := by
    blk_ext! [idx t]
  obtain rfl : y1 = 0 := Subsingleton.elim _ _
  rw [e, storeRead_apply, rowRead, rowHeads_block, block1, block2]
  rfl

/-- The write weights' array after the run. -/
theorem array_write : (dats m 0 c).arrAt 14 cfg0.N = kNewWrite m c := by
  refine (dats m 0 c).arrAt_eq_of_covers 14 _ (by decide +kernel) fun t hf y => ?_
  blk_simp
  rw [after0_14, (point_blocks m c t).2.2.2]
  idx_vars y
  have e : ((View.whole main_v0_3).slice (win0_14.rect t)).emb (ix3 y0 y1 y2) = ix3 (rowAt t y0) y1 y2 := by
    blk_ext! [idx t]
  obtain rfl : y1 = 0 := Subsingleton.elim _ _
  have hs : ∀ w : FVec Ideal S8x1024 .f32,
      shapeCast S8x1x1024 w shapeCasts_S8x1024_S8x1x1024 (ix3 y0 0 y2) = w (ix2 y0 y2) := fun w => by pointwise
  rw [e, hs, rowWrite, rowHeads_block, block1, block3]
  rfl

end Cert.Proof
-- ==== Proof.ReferenceParts.lean ====
/- The reference's parts as functions of the arrays each takes, read entry by entry: the two affine maps and the step
   of the recurrent unit, and the addressing, which both heads run on their own columns of the projection. -/
module

public import proofs.«01_k».proof.Proof.Gen.ReferenceIdeal
public import proofs.«01_k».proof.Proof.Spec

@[expose] public section

set_option maxRecDepth 16384

noncomputable section

namespace Cert.Proof

open Idealize.ShloMosaic Idealize.ShloMosaic.TcCoe Idealize.SL.Sem
open Cert.ReferenceIdeal Cert.ReferenceIdeal.Gen

/-- The gate terms of all rows: the weights `W` (output index first) applied to each row, and the bias. -/
def refGate (W : FVec Ideal S768x256 .f32) (b : FVec Ideal S768 .f32) (v : FVec Ideal S256x256 .f32) : FVec Ideal S256x768 .f32 :=
  addf (Host.dotGeneral dot_S256x256_S256x768_S256x768_1_0_0_1_n_n none v
      (transpose S256x768 [1, 0] W transposes_S768x256_S256x768_1_0))
    (broadcastInDim S256x768 ![0, 1] bcast_S1x768_S256x768_0_1 (broadcastInDim S1x768 ![1] bcast_S768_S1x768_1 b))

/-- The gate terms, row by row. -/
theorem refGate_apply (W : FVec Ideal S768x256 .f32) (b : FVec Ideal S768 .f32) (v : FVec Ideal S256x256 .f32)
    (r : Fin 256) (j : Fin 768) :
    refGate W b v (ix2 r j) = affine (fun i j => W (ix2 j i)) (vec1 b) (vec2 v r) j := by
  pointwise [refGate]
  rfl

/-- The logistic of all entries, as the reference writes it. -/
def refSig (v : FVec Ideal S256x256 .f32) : FVec Ideal S256x256 .f32 :=
  Host.divf (broadcastInDim S256x256 ![] bcast_S_S256x256 (constant S_ .f32 0x3F800000#32))
    (addf (broadcastInDim S256x256 ![] bcast_S_S256x256 (constant S_ .f32 0x3F800000#32)) (Host.exp (Host.negf v)))

/-- The logistic, entry by entry. -/
theorem refSig_apply (v : FVec Ideal S256x256 .f32) (r k : Fin 256) : refSig v (ix2 r k) = Ideal.logistic (v (ix2 r k)) := by
  pointwise [refSig]
  rfl

/-- The state of all rows after one step, from the two gate terms and the state before. -/
def refStep (gi gh : FVec Ideal S256x768 .f32) (h : FVec Ideal S256x256 .f32) : FVec Ideal S256x256 .f32 :=
  addf (mulf (subf (broadcastInDim S256x256 ![] bcast_S_S256x256 (constant S_ .f32 0x3F800000#32))
        (refSig (addf (extractStridedSlice S256x256 ![0, 256] gi slices_S256x768_S256x256_0_256)
          (extractStridedSlice S256x256 ![0, 256] gh slices_S256x768_S256x256_0_256))))
      (Host.tanh (addf (extractStridedSlice S256x256 ![0, 512] gi slices_S256x768_S256x256_0_512)
        (mulf (refSig (addf (extractStridedSlice S256x256 ![0, 0] gi slices_S256x768_S256x256_0_0)
            (extractStridedSlice S256x256 ![0, 0] gh slices_S256x768_S256x256_0_0)))
          (extractStridedSlice S256x256 ![0, 512] gh slices_S256x768_S256x256_0_512)))))
    (mulf (refSig (addf (extractStridedSlice S256x256 ![0, 256] gi slices_S256x768_S256x256_0_256)
      (extractStridedSlice S256x256 ![0, 256] gh slices_S256x768_S256x256_0_256))) h)

/-- One step on gate terms that are the affine maps of a row and its state is the recurrent unit's step. -/
theorem refStep_apply (Wi Wh : FVec Ideal S768x256 .f32) (bi bh : FVec Ideal S768 .f32) (v h : FVec Ideal S256x256 .f32)
    (r d : Fin 256) : refStep (refGate Wi bi v) (refGate Wh bh h) h (ix2 r d) =
      gru (fun i j => Wi (ix2 j i)) (fun i j => Wh (ix2 j i)) (vec1 bi) (vec1 bh) (vec2 v r) (vec2 h r) d := by
  have hi := refGate_apply Wi bi v r
  have hh := refGate_apply Wh bh h r
  generalize refGate Wi bi v = gi at hi ⊢
  generalize refGate Wh bh h = gh at hh ⊢
  pointwise [refStep, refSig]
  simp only [hi, hh]
  rfl

/-- The softplus of all rows' entries, as the reference writes it. -/
def refSoft (v : FVec Ideal S256 .f32) : FVec Ideal S256 .f32 :=
  select (cmpf .une (subf v (broadcastInDim S256 ![] bcast_S_S256 (constant S_ .f32 0x00000000#32)))
      (subf v (broadcastInDim S256 ![] bcast_S_S256 (constant S_ .f32 0x00000000#32))))
    (addf v (broadcastInDim S256 ![] bcast_S_S256 (constant S_ .f32 0x00000000#32)))
    (addf (maximumf v (broadcastInDim S256 ![] bcast_S_S256 (constant S_ .f32 0x00000000#32)))
      (Host.log1p (Host.exp (Host.negf (Host.absf
        (subf v (broadcastInDim S256 ![] bcast_S_S256 (constant S_ .f32 0x00000000#32))))))))

/-- The softplus, entry by entry. -/
theorem refSoft_apply (v : FVec Ideal S256 .f32) (r : Fin 256) : refSoft v (ix1 r) = softplus (v (ix1 r)) := by
  pointwise [refSoft]
  simp only [ne_eq, not_true, if_false, sub_zero, zero_sub, softplus]

/-- The similarities of the memory rows with the key, times the strength. -/
def refScaled (mem : FVec Ideal S256x1024x256 .f32) (key : FVec Ideal S256x256 .f32) (beta : FVec Ideal S256 .f32) :
    FVec Ideal S256x1024 .f32 :=
  mulf (broadcastInDim S256x1024 ![0, 1] bcast_S256x1_S256x1024_0_1 (broadcastInDim S256x1 ![0] bcast_S256_S256x1_0 (refSoft beta)))
    (Host.dotGeneral dot_S256x1024x256_S256x256_S256x1024_2_1_1_n_0_0 none
      (Host.divf mem (broadcastInDim S256x1024x256 ![0, 1, 2] bcast_S256x1024x1_S256x1024x256_0_1_2
        (addf (Host.sqrt (broadcastInDim S256x1024x1 ![0, 1] bcast_S256x1024_S256x1024x1_0_1
            (Host.reduceAdd (mulf mem mem) (constant S_ .f32 0x00000000#32) reducesTo_S256x1024x256_S256x1024_d2 h_S_)))
          (broadcastInDim S256x1024x1 ![] bcast_S_S256x1024x1 (constant S_ .f32 0x2B8CBCCC#32)))))
      (Host.divf key (broadcastInDim S256x256 ![0, 1] bcast_S256x1_S256x256_0_1
        (addf (Host.sqrt (broadcastInDim S256x1 ![0] bcast_S256_S256x1_0
            (Host.reduceAdd (mulf key key) (constant S_ .f32 0x00000000#32) reducesTo_S256x256_S256_d1 h_S_)))
          (broadcastInDim S256x1 ![] bcast_S_S256x1 (constant S_ .f32 0x2B8CBCCC#32))))))

/-- The scaled similarities, row by row. -/
theorem refScaled_apply (mem : FVec Ideal S256x1024x256 .f32) (key : FVec Ideal S256x256 .f32) (beta : FVec Ideal S256 .f32)
    (r : Fin 256) (n : Fin 1024) : refScaled mem key beta (ix2 r n) =
      softplus (beta (ix1 r)) * cosIn (vec3 mem r) (vec2 key r) n := by
  have hb := refSoft_apply beta r
  unfold refScaled
  generalize refSoft beta = s at hb ⊢
  pointwise
  simp only [hb]
  rfl

/-- The similarities' softmax interpolated with the previous weights, from the scaled similarities. -/
def refGated (sc : FVec Ideal S256x1024 .f32) (gate : FVec Ideal S256 .f32) (prev : FVec Ideal S256x1x1024 .f32) :
    FVec Ideal S256x1024 .f32 :=
  let e := Host.exp (subf sc (broadcastInDim S256x1024 ![0, 1] bcast_S256x1_S256x1024_0_1
    (broadcastInDim S256x1 ![0] bcast_S256_S256x1_0 (maximumf (broadcastInDim S256 ![] bcast_S_S256 (constant S_ .f32 0xFF800000#32))
      (Host.reduce FloatOps.maximumf sc (constant S_ .f32 0xFF800000#32) reducesTo_S256x1024_S256_d1 h_S_)))))
  let g := broadcastInDim S256x1 ![0] bcast_S256_S256x1_0
    (Host.divf (broadcastInDim S256 ![] bcast_S_S256 (constant S_ .f32 0x3F800000#32))
      (addf (broadcastInDim S256 ![] bcast_S_S256 (constant S_ .f32 0x3F800000#32)) (Host.exp (Host.negf gate))))
  addf (mulf (broadcastInDim S256x1024 ![0, 1] bcast_S256x1_S256x1024_0_1 g)
      (Host.divf e (broadcastInDim S256x1024 ![0, 1] bcast_S256x1_S256x1024_0_1 (broadcastInDim S256x1 ![0] bcast_S256_S256x1_0
        (Host.reduceAdd e (constant S_ .f32 0x00000000#32) reducesTo_S256x1024_S256_d1 h_S_)))))
    (mulf (broadcastInDim S256x1024 ![0, 1] bcast_S256x1_S256x1024_0_1
        (subf (broadcastInDim S256x1 ![] bcast_S_S256x1 (constant S_ .f32 0x3F800000#32)) g))
      (shapeCast _ prev shapeCasts_S256x1x1024_S256x1024))

/-- A running maximum is at least the value it starts from. -/
theorem max_low_rowMax {n : ℕ} (a : Fin n → EReal) : max low (rowMax a) = rowMax a :=
  max_eq_right ((Finset.le_fold_max _).mpr (Or.inl le_rfl))

/-- The interpolated weights, row by row. -/
theorem refGated_apply (sc : FVec Ideal S256x1024 .f32) (gate : FVec Ideal S256 .f32) (prev : FVec Ideal S256x1x1024 .f32)
    (r : Fin 256) (n : Fin 1024) : refGated sc gate prev (ix2 r n) =
      Ideal.logistic (gate (ix1 r)) * softmax (vec2 sc r) n + (1 - Ideal.logistic (gate (ix1 r))) * vec3 prev r 0 n := by
  have hm := max_low_rowMax (vec2 sc r)
  pointwise [refGated]
  unfold softmax
  rw [← hm]
  rfl

/-- The softmax of the three shift weights. -/
def refShift (sh : FVec Ideal S256x3 .f32) : FVec Ideal S256x3 .f32 :=
  let e := Host.exp (subf sh (broadcastInDim S256x3 ![0, 1] bcast_S256x1_S256x3_0_1
    (broadcastInDim S256x1 ![0] bcast_S256_S256x1_0 (maximumf (broadcastInDim S256 ![] bcast_S_S256 (constant S_ .f32 0xFF800000#32))
      (Host.reduce FloatOps.maximumf sh (constant S_ .f32 0xFF800000#32) reducesTo_S256x3_S256_d1 h_S_)))))
  Host.divf e (broadcastInDim S256x3 ![0, 1] bcast_S256x1_S256x3_0_1 (broadcastInDim S256x1 ![0] bcast_S256_S256x1_0
    (Host.reduceAdd e (constant S_ .f32 0x00000000#32) reducesTo_S256x3_S256_d1 h_S_)))

/-- The shift distribution, row by row. -/
theorem refShift_apply (sh : FVec Ideal S256x3 .f32) (r : Fin 256) (k : Fin 3) :
    refShift sh (ix2 r k) = softmax (vec2 sh r) k := by
  have hm := max_low_rowMax (vec2 sh r)
  pointwise [refShift]
  unfold softmax
  rw [← hm]
  rfl

/-- The weights `w` moved by the distribution `s` and raised to the power one plus the softplus of `gam`. -/
def refSharp (s : FVec Ideal S256x3 .f32) (w : FVec Ideal S256x1024 .f32) (gam : FVec Ideal S256 .f32) :
    FVec Ideal S256x1024 .f32 :=
  Host.powf (addf (addf (addf
      (mulf (broadcastInDim S256x1024 ![0, 1] bcast_S256x1_S256x1024_0_1 (extractStridedSlice S256x1 ![0, 0] s slices_S256x3_S256x1_0_0))
        (concatenate S256x1024 1 [⟨S256x1023, (extractStridedSlice S256x1023 ![0, 1] w slices_S256x1024_S256x1023_0_1)⟩,
          ⟨S256x1, (extractStridedSlice S256x1 ![0, 0] w slices_S256x1024_S256x1_0_0)⟩] concatenates_S256x1023_S256x1_S256x1024_d1))
      (mulf (broadcastInDim S256x1024 ![0, 1] bcast_S256x1_S256x1024_0_1 (extractStridedSlice S256x1 ![0, 1] s slices_S256x3_S256x1_0_1)) w))
      (mulf (broadcastInDim S256x1024 ![0, 1] bcast_S256x1_S256x1024_0_1 (extractStridedSlice S256x1 ![0, 2] s slices_S256x3_S256x1_0_2))
        (concatenate S256x1024 1 [⟨S256x1, (extractStridedSlice S256x1 ![0, 1023] w slices_S256x1024_S256x1_0_1023)⟩,
          ⟨S256x1023, (extractStridedSlice S256x1023 ![0, 0] w slices_S256x1024_S256x1023_0_0)⟩] concatenates_S256x1_S256x1023_S256x1024_d1)))
      (broadcastInDim S256x1024 ![] bcast_S_S256x1024 (constant S_ .f32 0x2B8CBCCC#32)))
    (broadcastInDim S256x1024 ![0, 1] bcast_S256x1_S256x1024_0_1 (broadcastInDim S256x1 ![0] bcast_S256_S256x1_0
      (addf (broadcastInDim S256 ![] bcast_S_S256 (constant S_ .f32 0x3F800000#32)) (refSoft gam))))

/-- The sharpened weights, row by row. -/
theorem refSharp_apply (s : FVec Ideal S256x3 .f32) (w : FVec Ideal S256x1024 .f32) (gam : FVec Ideal S256 .f32)
    (r : Fin 256) (n : Fin 1024) :
    refSharp s w gam (ix2 r n) = sharpPow (gam (ix1 r)) (moved (vec2 s r) (vec2 w r)) n := by
  have hg := refSoft_apply gam r
  unfold refSharp
  generalize refSoft gam = g at hg ⊢
  pointwise
  simp only [hg]
  rfl

/-- The rows divided by their stabilised sums. -/
def refNormed (p : FVec Ideal S256x1024 .f32) : FVec Ideal S256x1024 .f32 :=
  Host.divf p (broadcastInDim S256x1024 ![0, 1] bcast_S256x1_S256x1024_0_1
    (addf (broadcastInDim S256x1 ![0] bcast_S256_S256x1_0
        (Host.reduceAdd p (constant S_ .f32 0x00000000#32) reducesTo_S256x1024_S256_d1 h_S_))
      (broadcastInDim S256x1 ![] bcast_S_S256x1 (constant S_ .f32 0x2B8CBCCC#32))))

/-- The divided rows, entry by entry. -/
theorem refNormed_apply (p : FVec Ideal S256x1024 .f32) (r : Fin 256) (n : Fin 1024) :
    refNormed p (ix2 r n) = normed (vec2 p r) n := by
  pointwise [refNormed]
  rfl

/-- The memory's update from the write weights, the erase rows before their logistic, and the added rows. -/
def refMemory (mem : FVec Ideal S256x1024x256 .f32) (wt : FVec Ideal S256x1024 .f32) (er ad : FVec Ideal S256x256 .f32) :
    FVec Ideal S256x1024x256 .f32 :=
  addf (mulf mem (subf (broadcastInDim S256x1024x256 ![] bcast_S_S256x1024x256 (constant S_ .f32 0x3F800000#32))
      (mulf (broadcastInDim S256x1024x256 ![0, 1, 2] bcast_S256x1024x1_S256x1024x256_0_1_2
          (broadcastInDim S256x1024x1 ![0, 1] bcast_S256x1024_S256x1024x1_0_1 wt))
        (broadcastInDim S256x1024x256 ![0, 1, 2] bcast_S256x1x256_S256x1024x256_0_1_2
          (broadcastInDim S256x1x256 ![0, 2] bcast_S256x256_S256x1x256_0_2 (refSig er))))))
    (mulf (broadcastInDim S256x1024x256 ![0, 1, 2] bcast_S256x1024x1_S256x1024x256_0_1_2
        (broadcastInDim S256x1024x1 ![0, 1] bcast_S256x1024_S256x1024x1_0_1 wt))
      (broadcastInDim S256x1024x256 ![0, 1, 2] bcast_S256x1x256_S256x1024x256_0_1_2
        (broadcastInDim S256x1x256 ![0, 2] bcast_S256x256_S256x1x256_0_2 ad)))

/-- The memory's update, entry by entry. -/
theorem refMemory_apply (mem : FVec Ideal S256x1024x256 .f32) (wt : FVec Ideal S256x1024 .f32) (er ad : FVec Ideal S256x256 .f32)
    (r : Fin 256) (n : Fin 1024) (k : Fin 256) : refMemory mem wt er ad (ix3 r n k) =
      memoryKeep (vec3 mem r) (vec2 wt r) (fun k => Ideal.logistic (er (ix2 r k))) (vec2 ad r) n k := by
  have he := refSig_apply er r k
  unfold refMemory
  generalize refSig er = e at he ⊢
  pointwise
  simp only [he]
  rfl

/-- The weights with the batch's middle axis put back. -/
def refRow (p : FVec Ideal S256x1024 .f32) : FVec Ideal S256x1x1024 .f32 :=
  broadcastInDim S256x1x1024 ![0, 2] bcast_S256x1024_S256x1x1024_0_2 p

/-- The middle axis changes no entry. -/
theorem refRow_apply (p : FVec Ideal S256x1024 .f32) (r : Fin 256) (e : Fin 1) (n : Fin 1024) :
    refRow p (ix3 r e n) = p (ix2 r n) := by
  pointwise [refRow]

end Cert.Proof
-- ==== Proof.Reference.lean ====
/- The reference's stages, row by row, over the launch contents: the projection of each row's controller state, and the
   new weights of the two heads, both read through the same parts. -/
module

public import proofs.«01_k».proof.Proof.Gen.ReferenceIdeal.Run
public import proofs.«01_k».proof.Proof.ReferenceParts

@[expose] public section

set_option maxRecDepth 16384

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value

section Stages

variable (V : Valuation τ sig (Elt Ideal))

/-- The reference's arguments, by what they hold. -/
abbrev rX : FVec Ideal S256x256 .f32 := V (Proc.devRef .tc main_arg0)
@[inherit_doc rX] abbrev rMem : FVec Ideal S256x1024x256 .f32 := V (Proc.devRef .tc main_arg1)
@[inherit_doc rX] abbrev rRead : FVec Ideal S256x1x1024 .f32 := V (Proc.devRef .tc main_arg2)
@[inherit_doc rX] abbrev rWrite : FVec Ideal S256x1x1024 .f32 := V (Proc.devRef .tc main_arg3)
@[inherit_doc rX] abbrev rHidden : FVec Ideal S1x256x256 .f32 := V (Proc.devRef .tc main_arg4)
@[inherit_doc rX] abbrev rWi : FVec Ideal S768x256 .f32 := V (Proc.devRef .tc main_arg5)
@[inherit_doc rX] abbrev rWh : FVec Ideal S768x256 .f32 := V (Proc.devRef .tc main_arg6)
@[inherit_doc rX] abbrev rBi : FVec Ideal S768 .f32 := V (Proc.devRef .tc main_arg7)
@[inherit_doc rX] abbrev rBh : FVec Ideal S768 .f32 := V (Proc.devRef .tc main_arg8)
@[inherit_doc rX] abbrev rPw : FVec Ideal S1292x256 .f32 := V (Proc.devRef .tc main_arg9)
@[inherit_doc rX] abbrev rPb : FVec Ideal S1292 .f32 := V (Proc.devRef .tc main_arg10)

/-- The projection of row `R` of the launch contents. -/
def rHeads (R : Fin 256) : Fin 1292 → EReal :=
  heads (rWi V) (rWh V) (rBi V) (rBh V) (rPw V) (rPb V) (vec2 (rX V) R) (vec3 (rHidden V) 0 R) (vec3 (rRead V) R 0)
    (vec3 (rMem V) R)

/-- The input of the first step. -/
def rIn0 : FVec Ideal S256x256 .f32 :=
  shapeCast _ (extractStridedSlice S1x256x256 ![0, 0, 0] (res_main_v6 V) slices_S2x256x256_S1x256x256_0_0_0) shapeCasts_S1x256x256_S256x256

/-- The input of the second step. -/
def rIn1 : FVec Ideal S256x256 .f32 :=
  shapeCast _ (extractStridedSlice S1x256x256 ![1, 0, 0] (res_main_v6 V) slices_S2x256x256_S1x256x256_1_0_0) shapeCasts_S1x256x256_S256x256

/-- The first step takes the input row. -/
theorem rIn0_apply (r k : Fin 256) : rIn0 V (ix2 r k) = rX V (ix2 r k) := by
  pointwise [rIn0, res_main_v6, res_main_v3]

/-- The second step takes what the read weights take from the memory. -/
theorem rIn1_apply (r k : Fin 256) : rIn1 V (ix2 r k) = readOut (vec3 (rRead V) r 0) (vec3 (rMem V) r) k := by
  pointwise [rIn1, res_main_v6, res_main_v3]
  rfl

/-- The state before the first step. -/
theorem rState0_apply (r k : Fin 256) : res_main_v4 V (ix2 r k) = rHidden V (ix3 0 r k) := by
  pointwise [res_main_v4]

/-- The state after the first step, as the step of the parts. -/
theorem rState1_eq : res_main_v47 V =
    refStep (refGate (rWi V) (rBi V) (rIn0 V)) (refGate (rWh V) (rBh V) (res_main_v4 V)) (res_main_v4 V) := rfl

/-- The state after the second step, as the step of the parts. -/
theorem rState2_eq : res_main_v87 V =
    refStep (refGate (rWi V) (rBi V) (rIn1 V)) (refGate (rWh V) (rBh V) (res_main_v47 V)) (res_main_v47 V) := rfl

/-- The state after both steps, row by row. -/
theorem rState2_apply (r k : Fin 256) : res_main_v87 V (ix2 r k) =
    state (fun i j => rWi V (ix2 j i)) (fun i j => rWh V (ix2 j i)) (vec1 (rBi V)) (vec1 (rBh V)) (vec2 (rX V) r)
      (vec3 (rHidden V) 0 r) (vec3 (rRead V) r 0) (vec3 (rMem V) r) k := by
  have h0 : vec2 (rIn0 V) r = vec2 (rX V) r := funext fun k => rIn0_apply V r k
  have h1 : vec2 (rIn1 V) r = readOut (vec3 (rRead V) r 0) (vec3 (rMem V) r) := funext fun k => rIn1_apply V r k
  have hs : vec2 (res_main_v4 V : FVec Ideal S256x256 .f32) r = vec3 (rHidden V) 0 r := funext fun k => rState0_apply V r k
  have h2 : vec2 (res_main_v47 V : FVec Ideal S256x256 .f32) r = gru (fun i j => rWi V (ix2 j i)) (fun i j => rWh V (ix2 j i))
      (vec1 (rBi V)) (vec1 (rBh V)) (vec2 (rX V) r) (vec3 (rHidden V) 0 r) := by
    rw [rState1_eq]
    refine (funext fun k => refStep_apply _ _ _ _ _ _ r k).trans ?_
    rw [h0, hs]
  rw [rState2_eq]
  refine (refStep_apply _ _ _ _ _ _ r k).trans ?_
  rw [h1, h2]
  rfl

/-- The projection, row by row. -/
theorem rProj_apply (r : Fin 256) (j : Fin 1292) : res_main_v96 V (ix2 r j) = rHeads V r j := by
  have hs := rState2_apply V r
  unfold res_main_v96
  generalize res_main_v87 V = s at hs ⊢
  pointwise
  simp only [hs]
  rfl

/-- The first output: the projection's last part. -/
theorem rOut_apply (r k : Fin 256) :
    extractStridedSlice S256x256 ![0, 1036] (res_main_v96 V) slices_S256x1292_S256x256_0_1036 (ix2 r k) = part 1036 (rHeads V r) k := by
  have h := rProj_apply V r
  generalize res_main_v96 V = s at h ⊢
  pointwise
  exact h _

/-- The new weights of one head before they are divided by their sum, from the head's parts of the projection. -/
def refHead (mem : FVec Ideal S256x1024x256 .f32) (key : FVec Ideal S256x256 .f32) (beta gate : FVec Ideal S256 .f32)
    (shift : FVec Ideal S256x3 .f32) (gamma : FVec Ideal S256 .f32) (prev : FVec Ideal S256x1x1024 .f32) : FVec Ideal S256x1024 .f32 :=
  refSharp (refShift shift) (refGated (refScaled mem key beta) gate prev) gamma

/-- One head's new weights, row by row. -/
theorem refHead_apply (mem : FVec Ideal S256x1024x256 .f32) (key : FVec Ideal S256x256 .f32) (beta gate : FVec Ideal S256 .f32)
    (shift : FVec Ideal S256x3 .f32) (gamma : FVec Ideal S256 .f32) (prev : FVec Ideal S256x1x1024 .f32) (r : Fin 256) (n : Fin 1024) :
    refNormed (refHead mem key beta gate shift gamma prev) (ix2 r n) =
      weightsPow (vec3 mem r) (vec2 key r) (beta (ix1 r)) (gate (ix1 r)) (vec2 shift r) (gamma (ix1 r)) (vec3 prev r 0) n := by
  have hs : vec2 (refShift shift) r = softmax (vec2 shift r) := funext fun k => refShift_apply shift r k
  have hc : vec2 (refScaled mem key beta) r = fun n => softplus (beta (ix1 r)) * cosIn (vec3 mem r) (vec2 key r) n :=
    funext fun n => refScaled_apply mem key beta r n
  have hg : vec2 (refGated (refScaled mem key beta) gate prev) r =
      gated (cosIn (vec3 mem r) (vec2 key r)) (beta (ix1 r)) (gate (ix1 r)) (vec3 prev r 0) := by
    refine (funext fun n => refGated_apply _ gate prev r n).trans ?_
    rw [hc]
    rfl
  have hp : vec2 (refHead mem key beta gate shift gamma prev) r = sharpPow (gamma (ix1 r))
      (aim (cosIn (vec3 mem r) (vec2 key r)) (beta (ix1 r)) (gate (ix1 r)) (vec2 shift r) (vec3 prev r 0)) := by
    refine (funext fun n => refSharp_apply _ _ gamma r n).trans ?_
    rw [hs, hg]
    rfl
  refine (refNormed_apply _ r n).trans ?_
  rw [hp]
  rfl

/-- The read head's gate. -/
def rGateRead : FVec Ideal S256 .f32 :=
  shapeCast _ (extractStridedSlice S256x1 ![0, 257] (res_main_v97 V) slices_S256x262_S256x1_0_257) shapeCasts_S256x1_S256

/-- The write head's gate. -/
def rGateWrite : FVec Ideal S256 .f32 :=
  shapeCast _ (extractStridedSlice S256x1 ![0, 257] (res_main_v98 V) slices_S256x774_S256x1_0_257) shapeCasts_S256x1_S256

/-- The read head's sharpened weights, as the head of the parts. -/
theorem rSharpRead_eq : res_main_v180 V =
    refHead (rMem V) (res_main_v100 V) (res_main_v106 V) (rGateRead V) (res_main_v103 V) (res_main_v172 V) (rRead V) := rfl

/-- The write head's sharpened weights, as the head of the parts. -/
theorem rSharpWrite_eq : res_main_v268 V =
    refHead (rMem V) (res_main_v188 V) (res_main_v194 V) (rGateWrite V) (res_main_v191 V) (res_main_v260 V) (rWrite V) := rfl

/-- The read head's new weights, row by row. -/
theorem rRead_apply (r : Fin 256) (n : Fin 1024) :
    refNormed (res_main_v180 V) (ix2 r n) = readPow (rHeads V r) (vec3 (rMem V) r) (vec3 (rRead V) r 0) n := by
  have h := rProj_apply V r
  have hk : vec2 (res_main_v100 V : FVec Ideal S256x256 .f32) r = fun i => part 0 (rHeads V r) i := by
    funext k
    show (res_main_v100 V : FVec Ideal S256x256 .f32) (ix2 r k) = _
    unfold res_main_v100 res_main_v97
    generalize res_main_v96 V = s at h ⊢
    pointwise
    exact (h _).trans (congrArg (rHeads V r) (Fin.ext (Nat.zero_add _).symm))
  have hs : vec2 (res_main_v103 V : FVec Ideal S256x3 .f32) r = fun i => part 258 (rHeads V r) i := by
    funext k
    show (res_main_v103 V : FVec Ideal S256x3 .f32) (ix2 r k) = _
    unfold res_main_v103 res_main_v97
    generalize res_main_v96 V = s at h ⊢
    pointwise
    exact h _
  have hb : (res_main_v106 V : FVec Ideal S256 .f32) (ix1 r) = rHeads V r 256 := by
    unfold res_main_v106 res_main_v97
    generalize res_main_v96 V = s at h ⊢
    pointwise
    exact h _
  have hg : rGateRead V (ix1 r) = rHeads V r 257 := by
    unfold rGateRead res_main_v97
    generalize res_main_v96 V = s at h ⊢
    pointwise
    exact h _
  have hc : (res_main_v172 V : FVec Ideal S256 .f32) (ix1 r) = rHeads V r 261 := by
    unfold res_main_v172 res_main_v97
    generalize res_main_v96 V = s at h ⊢
    pointwise
    exact h _
  rw [rSharpRead_eq]
  refine (refHead_apply _ _ _ _ _ _ _ r n).trans ?_
  rw [hk, hs, hb, hg, hc]
  rfl

/-- The write head's new weights, row by row. -/
theorem rWrite_apply (r : Fin 256) (n : Fin 1024) :
    (res_main_v274 V : FVec Ideal S256x1024 .f32) (ix2 r n) = writePow (rHeads V r) (vec3 (rMem V) r) (vec3 (rWrite V) r 0) n := by
  have h := rProj_apply V r
  have hk : vec2 (res_main_v188 V : FVec Ideal S256x256 .f32) r = fun i => part 262 (rHeads V r) i := by
    funext k
    show (res_main_v188 V : FVec Ideal S256x256 .f32) (ix2 r k) = _
    unfold res_main_v188 res_main_v98
    generalize res_main_v96 V = s at h ⊢
    pointwise
    exact h _
  have hs : vec2 (res_main_v191 V : FVec Ideal S256x3 .f32) r = fun i => part 520 (rHeads V r) i := by
    funext k
    show (res_main_v191 V : FVec Ideal S256x3 .f32) (ix2 r k) = _
    unfold res_main_v191 res_main_v98
    generalize res_main_v96 V = s at h ⊢
    pointwise
    exact (h _).trans (congrArg (rHeads V r) (Fin.ext (Nat.add_assoc 262 258 _).symm))
  have hb : (res_main_v194 V : FVec Ideal S256 .f32) (ix1 r) = rHeads V r 518 := by
    unfold res_main_v194 res_main_v98
    generalize res_main_v96 V = s at h ⊢
    pointwise
    exact h _
  have hg : rGateWrite V (ix1 r) = rHeads V r 519 := by
    unfold rGateWrite res_main_v98
    generalize res_main_v96 V = s at h ⊢
    pointwise
    exact h _
  have hc : (res_main_v260 V : FVec Ideal S256 .f32) (ix1 r) = rHeads V r 523 := by
    unfold res_main_v260 res_main_v98
    generalize res_main_v96 V = s at h ⊢
    pointwise
    exact h _
  have he : res_main_v274 V = refNormed (res_main_v268 V) := rfl
  rw [he, rSharpWrite_eq]
  refine (refHead_apply _ _ _ _ _ _ _ r n).trans ?_
  rw [hk, hs, hb, hg, hc]
  rfl

/-- The erase rows before their logistic. -/
def rErase : FVec Ideal S256x256 .f32 := extractStridedSlice S256x256 ![0, 262] (res_main_v98 V) slices_S256x774_S256x256_0_262

/-- The added rows. -/
def rAdd : FVec Ideal S256x256 .f32 := extractStridedSlice S256x256 ![0, 518] (res_main_v98 V) slices_S256x774_S256x256_0_518

/-- The new memory, row by row. -/
theorem rMemory_apply (r : Fin 256) (n : Fin 1024) (k : Fin 256) :
    refMemory (rMem V) (res_main_v274 V) (rErase V) (rAdd V) (ix3 r n k) =
      memoryKeep (vec3 (rMem V) r) (writePow (rHeads V r) (vec3 (rMem V) r) (vec3 (rWrite V) r 0))
        (fun k => Ideal.logistic (part 524 (rHeads V r) k)) (fun k => part 780 (rHeads V r) k) n k := by
  have h := rProj_apply V r
  have hw : vec2 (res_main_v274 V : FVec Ideal S256x1024 .f32) r = writePow (rHeads V r) (vec3 (rMem V) r) (vec3 (rWrite V) r 0) :=
    funext fun n => rWrite_apply V r n
  have he : ∀ k, rErase V (ix2 r k) = part 524 (rHeads V r) k := fun k => by
    unfold rErase res_main_v98
    generalize res_main_v96 V = s at h ⊢
    pointwise
    exact (h _).trans (congrArg (rHeads V r) (Fin.ext (Nat.add_assoc 262 262 _).symm))
  have ha : vec2 (rAdd V) r = fun k => part 780 (rHeads V r) k := funext fun k => by
    show rAdd V (ix2 r k) = _
    unfold rAdd res_main_v98
    generalize res_main_v96 V = s at h ⊢
    pointwise
    exact (h _).trans (congrArg (rHeads V r) (Fin.ext (Nat.add_assoc 262 518 _).symm))
  refine (refMemory_apply _ _ _ _ r n k).trans ?_
  rw [hw, ha]
  simp only [he]

end Stages

end Cert.Proof
-- ==== Proof.Arith.lean ====
/- The arithmetic over the extended reals that joins the two programs' forms of a row: which quantities are real
   numbers, which are not negative, and that the two forms of each step agree where they are. -/
module

public import proofs.«01_k».proof.Proof.Spec

@[expose] public section

noncomputable section

namespace Cert.Proof

open Idealize.ShloMosaic

/-- An extended real that is a real number. -/
def IsReal (x : EReal) : Prop := ∃ r : ℝ, x = (r : EReal)

/-- An extended real that is a real number and not negative. -/
def IsNonnegReal (x : EReal) : Prop := ∃ r : ℝ, 0 ≤ r ∧ x = (r : EReal)

/-- An extended real that is a positive real number. -/
def IsPosReal (x : EReal) : Prop := ∃ r : ℝ, 0 < r ∧ x = (r : EReal)

/-- A positive real number is not negative. -/
theorem IsPosReal.nonneg {x : EReal} : IsPosReal x → IsNonnegReal x := fun ⟨r, hr, h⟩ => ⟨r, hr.le, h⟩

/-- A nonnegative real number is real. -/
theorem IsNonnegReal.real {x : EReal} : IsNonnegReal x → IsReal x := fun ⟨r, _, h⟩ => ⟨r, h⟩

/-- A nonnegative real number is at least zero. -/
theorem IsNonnegReal.zero_le {x : EReal} : IsNonnegReal x → 0 ≤ x := fun ⟨_, hr, h⟩ => h ▸ EReal.coe_nonneg.mpr hr

/-- A real number that is at least zero is a nonnegative real. -/
theorem IsReal.nonneg {x : EReal} (h0 : 0 ≤ x) : IsReal x → IsNonnegReal x := fun ⟨r, h⟩ =>
  ⟨r, EReal.coe_nonneg.mp (h ▸ h0), h⟩

/-- One is real. -/
theorem one_real : IsReal 1 := ⟨1, EReal.coe_one.symm⟩

/-- The sum of two reals is real. -/
theorem IsReal.add {x y : EReal} : IsReal x → IsReal y → IsReal (x + y) := fun ⟨a, ha⟩ ⟨b, hb⟩ =>
  ⟨a + b, by rw [ha, hb, EReal.coe_add]⟩

/-- The difference of two reals is real. -/
theorem IsReal.sub {x y : EReal} : IsReal x → IsReal y → IsReal (x - y) := fun ⟨a, ha⟩ ⟨b, hb⟩ =>
  ⟨a - b, by rw [ha, hb, EReal.coe_sub]⟩

/-- The product of two reals is real. -/
theorem IsReal.mul {x y : EReal} : IsReal x → IsReal y → IsReal (x * y) := fun ⟨a, ha⟩ ⟨b, hb⟩ =>
  ⟨a * b, by rw [ha, hb, EReal.coe_mul]⟩

/-- The sum of a nonnegative and a positive real is a positive real. -/
theorem IsNonnegReal.add_pos {x y : EReal} : IsNonnegReal x → IsPosReal y → IsPosReal (x + y) := fun ⟨a, h, ha⟩ ⟨b, k, hb⟩ =>
  ⟨a + b, add_pos_of_nonneg_of_pos h k, by rw [ha, hb, EReal.coe_add]⟩

/-- The sum of two nonnegative reals is a nonnegative real. -/
theorem IsNonnegReal.add {x y : EReal} : IsNonnegReal x → IsNonnegReal y → IsNonnegReal (x + y) := fun ⟨a, h, ha⟩ ⟨b, k, hb⟩ =>
  ⟨a + b, add_nonneg h k, by rw [ha, hb, EReal.coe_add]⟩

/-- The inclusion of the reals takes sums to sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals takes maxima to maxima. -/
theorem coe_max (a b : ℝ) : ((max a b : ℝ) : EReal) = max (a : EReal) (b : EReal) :=
  EReal.coe_strictMono.monotone.map_max

/-- A sum of reals is real. -/
theorem IsReal.sum {ι : Type} [Fintype ι] {f : ι → EReal} (h : ∀ i, IsReal (f i)) : IsReal (∑ i, f i) := by
  choose g hg using h
  exact ⟨∑ i, g i, by simp only [hg, coe_sum]⟩

/-- A sum of nonnegative reals is a nonnegative real. -/
theorem IsNonnegReal.sum {ι : Type} [Fintype ι] {f : ι → EReal} (h : ∀ i, IsNonnegReal (f i)) : IsNonnegReal (∑ i, f i) := by
  choose g hg hf using h
  exact ⟨∑ i, g i, Finset.sum_nonneg fun i _ => hg i, by simp only [hf, coe_sum]⟩

/-- A sum of positive reals over a nonempty range is a positive real. -/
theorem IsPosReal.sum {ι : Type} [Fintype ι] [Nonempty ι] {f : ι → EReal} (h : ∀ i, IsPosReal (f i)) : IsPosReal (∑ i, f i) := by
  choose g hg hf using h
  exact ⟨∑ i, g i, Finset.sum_pos (fun i _ => hg i) Finset.univ_nonempty, by simp only [hf, coe_sum]⟩

/-- Division by a positive real is multiplication by its inverse. -/
theorem div_pos_real {r : ℝ} (hr : 0 < r) (x : EReal) : Ideal.div x (r : EReal) = x * ((1 / r : ℝ) : EReal) :=
  Ideal.div_coe hr.ne' x

/-- A real over a positive real is real. -/
theorem IsReal.div {x y : EReal} (hx : IsReal x) : IsPosReal y → IsReal (Ideal.div x y) := fun ⟨r, hr, h⟩ => by
  rw [h, div_pos_real hr]
  exact hx.mul ⟨1 / r, rfl⟩

/-- A nonnegative real over a positive real is a nonnegative real. -/
theorem IsNonnegReal.div {x y : EReal} : IsNonnegReal x → IsPosReal y → IsNonnegReal (Ideal.div x y) := fun ⟨a, ha, hx⟩ ⟨r, hr, h⟩ => by
  rw [h, div_pos_real hr, hx, ← EReal.coe_mul]
  exact ⟨_, mul_nonneg ha (one_div_pos.mpr hr).le, rfl⟩

/-- The exponential of a real is a positive real. -/
theorem IsReal.exp {x : EReal} : IsReal x → IsPosReal (Ideal.exp x) := fun ⟨a, ha⟩ =>
  ⟨Real.exp a, Real.exp_pos a, by rw [ha, Ideal.exp_coe]⟩

/-- The logistic of anything is a real between zero and one. -/
theorem logistic_bounds (x : EReal) : ∃ r : ℝ, 0 ≤ r ∧ r ≤ 1 ∧ Ideal.logistic x = (r : EReal) := by
  induction x with
  | bot => exact ⟨0, le_rfl, zero_le_one, by simp⟩
  | top => exact ⟨1, zero_le_one, le_rfl, by simp⟩
  | coe r =>
    have hp := Real.exp_pos (-r)
    exact ⟨_, by positivity, inv_le_one_of_one_le₀ (by linarith), Ideal.logistic_coe r⟩

/-- The logistic of anything is real. -/
theorem logistic_real (x : EReal) : IsReal (Ideal.logistic x) := by
  obtain ⟨r, _, _, h⟩ := logistic_bounds x
  exact ⟨r, h⟩

/-- The hyperbolic tangent of anything is real. -/
theorem tanh_real (x : EReal) : IsReal (Ideal.tanh x) := by
  induction x with
  | bot => exact ⟨-1, by simp⟩
  | top => exact ⟨1, by simp⟩
  | coe r => exact ⟨_, Ideal.tanh_coe r⟩

/-- The stabilising constant is a positive real. -/
theorem eps_pos : IsPosReal eps := by
  refine ⟨_, ?_, (by unfold eps; simp [Ideal.ofBits, Ideal.ieee, -EReal.coe_mul]; rfl)⟩
  norm_num

/-- The value running maxima start from is minus infinity. -/
theorem low_eq : low = ⊥ := by
  unfold low
  simp [Ideal.ofBits, Ideal.ieee]

/-- The largest entry of a row of reals is real. -/
theorem rowMax_real {n : ℕ} [NeZero n] {a : Fin n → EReal} (h : ∀ i, IsReal (a i)) : IsReal (rowMax a) := by
  have hstep : ∀ s : Finset (Fin n), s.fold max low a = ⊥ ∨ IsReal (s.fold max low a) := fun s => by
    induction s using Finset.induction_on with
    | empty => exact Or.inl low_eq
    | insert i s hi ih =>
      rw [Finset.fold_insert hi]
      rcases max_choice (a i) (s.fold max low a) with hm | hm <;> rw [hm]
      · exact Or.inr (h i)
      · exact ih
  refine (hstep Finset.univ).resolve_left fun hb => ?_
  have hle : a 0 ≤ Finset.univ.fold max low a := (Finset.le_fold_max _).mpr (Or.inr ⟨0, Finset.mem_univ 0, le_rfl⟩)
  obtain ⟨r, hr⟩ := h 0
  rw [hb, hr] at hle
  exact EReal.coe_ne_bot r (le_bot_iff.mp hle)

/-- The softmax of a row of reals is a nonnegative real. -/
theorem softmax_real {n : ℕ} [NeZero n] {a : Fin n → EReal} (h : ∀ i, IsReal (a i)) (i : Fin n) : IsNonnegReal (softmax a i) :=
  ((h i).sub (rowMax_real h)).exp.nonneg.div (IsPosReal.sum fun j => ((h j).sub (rowMax_real h)).exp)

/-- The softplus of a real is a nonnegative real. -/
theorem softplus_real {x : EReal} : IsReal x → IsNonnegReal (softplus x) := fun ⟨a, ha⟩ => by
  have hs : ∃ b : ℝ, (0 : EReal) - FloatOps.absf (F := Ideal) (φ := .f32) x = (b : EReal) := by
    refine ⟨-|a|, ?_⟩
    rw [ha, zero_sub]
    show -(max (a : EReal) (-(a : EReal))) = _
    rw [← EReal.coe_neg, ← coe_max, ← EReal.coe_neg]
    rfl
  obtain ⟨b, hb⟩ := hs
  have hp : 0 < Real.exp b := Real.exp_pos b
  refine IsNonnegReal.add ⟨max a 0, le_max_right _ _, by rw [ha, coe_max, EReal.coe_zero]⟩
    ⟨Real.log (1 + Real.exp b), Real.log_nonneg (by linarith), ?_⟩
  rw [hb, Ideal.exp_coe, Ideal.log1p, ← EReal.coe_one, ← EReal.coe_add, Ideal.log_coe, if_neg (by linarith)]

/-- An affine map of a row of reals is real. -/
theorem affine_real {k n : ℕ} {W : Fin k → Fin n → EReal} {b : Fin n → EReal} {v : Fin k → EReal}
    (hW : ∀ i j, IsReal (W i j)) (hb : ∀ j, IsReal (b j)) (hv : ∀ i, IsReal (v i)) (j : Fin n) : IsReal (affine W b v j) :=
  (IsReal.sum fun i => (hv i).mul (hW i j)).add (hb j)

/-- A step of the recurrent unit keeps the state real, whatever its weights and its input. -/
theorem gru_real {Wi Wh : Fin 256 → Fin 768 → EReal} {bi bh : Fin 768 → EReal} {x h : Fin 256 → EReal}
    (hh : ∀ d, IsReal (h d)) (d : Fin 256) : IsReal (gru Wi Wh bi bh x h d) :=
  ((one_real.sub (logistic_real _)).mul (tanh_real _)).add ((logistic_real _).mul (hh d))

/-- A row's projection is real where the projection's weights and the row's first state are. -/
theorem heads_real {wi wh : (⟨2, ![768, 256]⟩ : Shape).Idx → EReal} {bi bh : (⟨1, ![768]⟩ : Shape).Idx → EReal}
    {pw : (⟨2, ![1292, 256]⟩ : Shape).Idx → EReal} {pb : (⟨1, ![1292]⟩ : Shape).Idx → EReal} {x h : Fin 256 → EReal}
    {w : Fin 1024 → EReal} {mem : Fin 1024 → Fin 256 → EReal} (hpw : ∀ i, IsReal (pw i)) (hpb : ∀ i, IsReal (pb i))
    (hh : ∀ d, IsReal (h d)) (j : Fin 1292) : IsReal (heads wi wh bi bh pw pb x h w mem j) :=
  affine_real (fun _ _ => hpw _) (fun _ => hpb _) (gru_real (gru_real hh)) j

/-- The stabilised length of a row of reals is a positive real. -/
theorem len_pos {v : Fin 256 → EReal} (h : ∀ k, IsReal (v k)) : IsPosReal (len v) := by
  obtain ⟨s, hs, he⟩ : IsNonnegReal (∑ k, v k * v k) := IsNonnegReal.sum fun k => by
    obtain ⟨a, ha⟩ := h k
    exact ⟨a * a, mul_self_nonneg a, by rw [ha, EReal.coe_mul]⟩
  refine IsNonnegReal.add_pos ⟨Real.sqrt s, Real.sqrt_nonneg s, ?_⟩ eps_pos
  rw [he, Ideal.sqrt_coe, if_neg hs.not_gt]

/-- A real key scaled to unit length is real. -/
theorem unitKey_real {key : Fin 256 → EReal} (h : ∀ k, IsReal (key k)) (k : Fin 256) : IsReal (unitKey key k) :=
  (h k).div (len_pos h)

/-- The similarity of a real memory row and a real key is real. -/
theorem cosIn_real {mem : Fin 1024 → Fin 256 → EReal} {key : Fin 256 → EReal} (hm : ∀ n k, IsReal (mem n k))
    (hk : ∀ k, IsReal (key k)) (n : Fin 1024) : IsReal (cosIn mem key n) :=
  IsReal.sum fun k => ((hm n k).div (len_pos (hm n))).mul (unitKey_real hk k)

/-- Dividing the memory row's length out of the sum changes nothing where the row and the key are real. -/
theorem cosOut_eq {mem : Fin 1024 → Fin 256 → EReal} {key : Fin 256 → EReal} (hm : ∀ n k, IsReal (mem n k))
    (hk : ∀ k, IsReal (key k)) : cosOut mem key = cosIn mem key := by
  funext n
  obtain ⟨l, hl, he⟩ := len_pos (hm n)
  choose m hm using hm n
  choose u hu using unitKey_real hk
  unfold cosOut cosIn
  simp only [he, div_pos_real hl, hm, hu, one_mul, ← EReal.coe_mul, ← coe_sum, Finset.sum_mul]
  exact congrArg _ (Finset.sum_congr rfl fun k _ => by ring)

/-- Weights interpolated from real similarities and weights that are not negative are not negative. -/
theorem gated_nonneg {cos : Fin 1024 → EReal} {beta gate : EReal} {prev : Fin 1024 → EReal} (hc : ∀ n, IsReal (cos n))
    (hb : IsReal beta) (hp : ∀ n, 0 ≤ prev n) (n : Fin 1024) : 0 ≤ gated cos beta gate prev n := by
  obtain ⟨g, h0, h1, hg⟩ := logistic_bounds gate
  have hs := softmax_real (fun i => (softplus_real hb).real.mul (hc i)) n
  refine add_nonneg (mul_nonneg ?_ hs.zero_le) (mul_nonneg ?_ (hp n)) <;> rw [hg]
  · exact EReal.coe_nonneg.mpr h0
  · rw [← EReal.coe_one, ← EReal.coe_sub]
    exact EReal.coe_nonneg.mpr (sub_nonneg.mpr h1)

/-- Moving weights that are not negative by a distribution leaves them so. -/
theorem moved_nonneg {s : Fin 3 → EReal} {w : Fin 1024 → EReal} (hs : ∀ k, 0 ≤ s k) (hw : ∀ n, 0 ≤ w n) (n : Fin 1024) :
    0 ≤ moved s w n := by
  have ha : 0 ≤ after w n := by unfold after; split <;> exact hw _
  have hb : 0 ≤ before w n := by unfold before; split <;> exact hw _
  exact add_nonneg (add_nonneg (mul_nonneg (hs 0) ha) (mul_nonneg (hs 1) (hw n))) (mul_nonneg (hs 2) hb)

/-- Both forms of the sharpening agree on weights that are not negative, infinite ones included. -/
theorem sharpExp_eq {gamma : EReal} {w : Fin 1024 → EReal} (hg : IsReal gamma) (hw : ∀ n, 0 ≤ w n) :
    sharpExp gamma w = sharpPow gamma w := by
  funext n
  obtain ⟨s, hs, he⟩ := softplus_real hg
  obtain ⟨e, hpos, hE⟩ := eps_pos
  have hc : (1 : EReal) + softplus gamma = ((1 + s : ℝ) : EReal) := by rw [he, EReal.coe_add, EReal.coe_one]
  have h0 := hw n
  unfold sharpExp sharpPow
  rw [hc, hE]
  generalize w n = x at h0
  induction x with
  | bot => exact absurd h0 (by simp)
  | top =>
    have hp : (0 : EReal) < ((1 + s : ℝ) : EReal) := EReal.coe_pos.mpr (by linarith)
    rw [EReal.top_add_coe, Ideal.log_top, EReal.mul_top_of_pos hp, Ideal.exp_top, Ideal.pow_top, if_pos hp]
  | coe x =>
    have hx : 0 < x + e := by have := EReal.coe_nonneg.mp h0; linarith
    rw [← EReal.coe_add, Ideal.log_coe, if_neg hx.not_ge, ← EReal.coe_mul, Ideal.exp_coe, Ideal.pow_coe_coe]
    refine congrArg _ ?_
    rw [mul_comm]
    exact (Real.rpow_def_of_pos hx _).symm

/-- The exponential is not negative. -/
theorem exp_nonneg (x : EReal) : 0 ≤ Ideal.exp x := by
  induction x with
  | bot => simp
  | top => simp
  | coe r => exact EReal.coe_nonneg.mpr (Real.exp_pos r).le

/-- A row that is not negative, divided by its stabilised sum, is real: an infinite sum divides to zero. -/
theorem normed_real {p : Fin 1024 → EReal} (hp : ∀ n, 0 ≤ p n) (n : Fin 1024) : IsReal (normed p n) := by
  obtain ⟨e, hpos, hE⟩ := eps_pos
  have h0 : 0 ≤ ∑ i, p i := Finset.sum_nonneg fun i _ => hp i
  have hle : p n ≤ ∑ i, p i := Finset.single_le_sum (fun i _ => hp i) (Finset.mem_univ n)
  have hn := hp n
  unfold normed
  rw [hE]
  generalize (∑ i, p i) = s at h0 hle ⊢
  generalize p n = x at hn hle ⊢
  induction s with
  | bot => exact absurd h0 (by simp)
  | top => exact ⟨0, by rw [EReal.top_add_coe, Ideal.div, if_neg (by simp)]; simp⟩
  | coe s =>
    have hx : IsReal x := by
      induction x with
      | bot => exact absurd hn (by simp)
      | top => exact absurd hle (by simp)
      | coe x => exact ⟨x, rfl⟩
    exact hx.div ⟨s + e, by have := EReal.coe_nonneg.mp h0; linarith, (EReal.coe_add s e).symm⟩

section Head

variable {mem : Fin 1024 → Fin 256 → EReal} {key : Fin 256 → EReal} {beta gate gamma : EReal} {shift : Fin 3 → EReal}
  {prev : Fin 1024 → EReal}

/-- The two programs' new weights of one head agree where the memory and the head's part of the projection are real
and the previous weights are not negative. -/
theorem weightsExp_eq (hm : ∀ n k, IsReal (mem n k)) (hk : ∀ k, IsReal (key k)) (hb : IsReal beta) (hs : ∀ i, IsReal (shift i))
    (hg : IsReal gamma) (hp : ∀ n, 0 ≤ prev n) :
    weightsExp mem key beta gate shift gamma prev = weightsPow mem key beta gate shift gamma prev := by
  unfold weightsExp weightsPow
  rw [cosOut_eq hm hk, sharpExp_eq hg]
  exact moved_nonneg (fun k => (softmax_real hs k).zero_le) (gated_nonneg (cosIn_real hm hk) hb hp)

/-- A head's new weights are real. -/
theorem weightsExp_real (n : Fin 1024) : IsReal (weightsExp mem key beta gate shift gamma prev n) :=
  normed_real (fun _ => exp_nonneg _) n

end Head

/-- Both forms of the memory's update agree where all they take is real. -/
theorem memoryMove_eq {mem : Fin 1024 → Fin 256 → EReal} {wt : Fin 1024 → EReal} {er ad : Fin 256 → EReal}
    (hm : ∀ n k, IsReal (mem n k)) (hw : ∀ n, IsReal (wt n)) (he : ∀ k, IsReal (er k)) (ha : ∀ k, IsReal (ad k)) :
    memoryMove mem wt er ad = memoryKeep mem wt er ad := by
  funext n k
  obtain ⟨m, hm⟩ := hm n k
  obtain ⟨w, hw⟩ := hw n
  obtain ⟨e, he⟩ := he k
  obtain ⟨a, ha⟩ := ha k
  unfold memoryMove memoryKeep
  rw [hm, hw, he, ha, ← EReal.coe_one]
  simp only [← EReal.coe_mul, ← EReal.coe_sub, ← EReal.coe_add]
  exact congrArg _ (by ring)

section Row

variable {co : Fin 1292 → EReal} {mem : Fin 1024 → Fin 256 → EReal} {prev : Fin 1024 → EReal}

/-- The read head's new weights agree. -/
theorem readExp_eq (hc : ∀ j, IsReal (co j)) (hm : ∀ n k, IsReal (mem n k)) (hp : ∀ n, 0 ≤ prev n) :
    readExp co mem prev = readPow co mem prev :=
  weightsExp_eq hm (fun _ => hc _) (hc _) (fun _ => hc _) (hc _) hp

/-- The write head's new weights agree. -/
theorem writeExp_eq (hc : ∀ j, IsReal (co j)) (hm : ∀ n k, IsReal (mem n k)) (hp : ∀ n, 0 ≤ prev n) :
    writeExp co mem prev = writePow co mem prev :=
  weightsExp_eq hm (fun _ => hc _) (hc _) (fun _ => hc _) (hc _) hp

/-- The new memory agrees. -/
theorem newMemory_eq (hc : ∀ j, IsReal (co j)) (hm : ∀ n k, IsReal (mem n k)) (hp : ∀ n, 0 ≤ prev n) :
    memoryMove mem (writeExp co mem prev) (fun k => Ideal.logistic (part 524 co k)) (fun k => part 780 co k) =
      memoryKeep mem (writePow co mem prev) (fun k => Ideal.logistic (part 524 co k)) (fun k => part 780 co k) := by
  exact (memoryMove_eq hm (fun _ => weightsExp_real _) (fun _ => logistic_real _) fun _ => hc _).trans
    (congrArg (fun w => memoryKeep mem w _ _) (writeExp_eq hc hm hp))

end Row

end Cert.Proof
-- ==== Proof.Agree.lean ====
/- From equal arguments both programs leave equal results: each of the four result arrays, entry by entry. -/
module

public import proofs.«01_k».proof.Proof.KernelResult
public import proofs.«01_k».proof.Proof.Reference
public import proofs.«01_k».proof.Proof.Arith

@[expose] public section

set_option maxRecDepth 16384

noncomputable section

namespace Cert.Proof

open Idealize.ShloMosaic Idealize.ShloMosaic.TcCoe Idealize.SL.Sem Idealize.ShloMosaic.StableHlo
open Cert.KernelIdeal (nD τ sig main_arg0 main_arg1 main_arg2 main_arg3 main_arg4 main_arg5 main_arg6 main_arg7 main_arg8
  main_arg9 main_arg10)

/-- The reference's arguments hold what the kernel's do. -/
structure SameArgs (m : (ℓ : Loc nD τ sig) → Buf (Elt Ideal) ℓ) (c : Dev nD)
    (V : Valuation Cert.ReferenceIdeal.τ Cert.ReferenceIdeal.sig (Elt Ideal)) : Prop where
  x : rX V = m ((c : Thread nD τ).loc main_arg0)
  mem : rMem V = m ((c : Thread nD τ).loc main_arg1)
  read : rRead V = m ((c : Thread nD τ).loc main_arg2)
  write : rWrite V = m ((c : Thread nD τ).loc main_arg3)
  hidden : rHidden V = m ((c : Thread nD τ).loc main_arg4)
  wi : rWi V = m ((c : Thread nD τ).loc main_arg5)
  wh : rWh V = m ((c : Thread nD τ).loc main_arg6)
  bi : rBi V = m ((c : Thread nD τ).loc main_arg7)
  bh : rBh V = m ((c : Thread nD τ).loc main_arg8)
  pw : rPw V = m ((c : Thread nD τ).loc main_arg9)
  pb : rPb V = m ((c : Thread nD τ).loc main_arg10)

/-- What the results' agreement takes of the arguments: a real memory, hidden state and projection, and weights that are
not negative. -/
structure RealState (m : (ℓ : Loc nD τ sig) → Buf (Elt Ideal) ℓ) (c : Dev nD) : Prop where
  mem : ∀ R n k, IsReal (kMem m c R n k)
  heads : ∀ R j, IsReal (kHeads m c R j)
  read : ∀ R n, 0 ≤ kRead m c R n
  write : ∀ R n, 0 ≤ kWrite m c R n

variable {m : (ℓ : Loc nD τ sig) → Buf (Elt Ideal) ℓ} {c : Dev nD}
  {V : Valuation Cert.ReferenceIdeal.τ Cert.ReferenceIdeal.sig (Elt Ideal)}

/-- The memory's rows agree. -/
theorem mem_agree (h : SameArgs m c V) (R : Fin 256) : vec3 (rMem V) R = kMem m c R := by rw [h.mem]

/-- The read weights agree. -/
theorem read_agree (h : SameArgs m c V) (R : Fin 256) : vec3 (rRead V) R 0 = kRead m c R := by rw [h.read]

/-- The write weights agree. -/
theorem write_agree (h : SameArgs m c V) (R : Fin 256) : vec3 (rWrite V) R 0 = kWrite m c R := by rw [h.write]

/-- The projections agree, row by row. -/
theorem heads_agree (h : SameArgs m c V) (R : Fin 256) : rHeads V R = kHeads m c R := by
  unfold rHeads kHeads
  rw [mem_agree h, read_agree h, h.x, h.hidden, h.wi, h.wh, h.bi, h.bh, h.pw, h.pb]

/-- The outputs agree. -/
theorem out_agree (h : SameArgs m c V) :
    extractStridedSlice Cert.ReferenceIdeal.S256x256 ![0, 1036] (Cert.ReferenceIdeal.Value.res_main_v96 V)
      Cert.ReferenceIdeal.Gen.slices_S256x1292_S256x256_0_1036 = kOut m c := by
  funext i
  idx_vars i
  refine (rOut_apply V i0 i1).trans ?_
  rw [heads_agree h]
  rfl

/-- The new memories agree. -/
theorem memory_agree (h : SameArgs m c V) (hr : RealState m c) :
    refMemory (rMem V) (Cert.ReferenceIdeal.Value.res_main_v274 V) (rErase V) (rAdd V) = kNewMem m c := by
  funext i
  idx_vars i
  refine (rMemory_apply V i0 i1 i2).trans ?_
  rw [heads_agree h, mem_agree h, write_agree h, ← newMemory_eq (hr.heads i0) (hr.mem i0) (hr.write i0)]
  rfl

/-- The new read weights agree. -/
theorem newRead_agree (h : SameArgs m c V) (hr : RealState m c) :
    refRow (refNormed (Cert.ReferenceIdeal.Value.res_main_v180 V)) = kNewRead m c := by
  funext i
  idx_vars i
  refine (refRow_apply _ i0 i1 i2).trans ((rRead_apply V i0 i2).trans ?_)
  rw [heads_agree h, mem_agree h, read_agree h, ← readExp_eq (hr.heads i0) (hr.mem i0) (hr.read i0)]
  rfl

/-- The new write weights agree. -/
theorem newWrite_agree (h : SameArgs m c V) (hr : RealState m c) :
    refRow (Cert.ReferenceIdeal.Value.res_main_v274 V) = kNewWrite m c := by
  funext i
  idx_vars i
  refine (refRow_apply _ i0 i1 i2).trans ((rWrite_apply V i0 i2).trans ?_)
  rw [heads_agree h, mem_agree h, write_agree h, ← writeExp_eq (hr.heads i0) (hr.mem i0) (hr.write i0)]
  rfl

end Cert.Proof
-- ==== Proof.Precondition.lean ====
/- What the precondition `real_state` says of the arrays it is taken at: the memory, the hidden state and the
   projection's weights hold real numbers, and neither head's previous weights are negative. -/
module

public import proofs.«01_k».proof.Proof.Gen.Pre_real_state
public import proofs.«01_k».proof.Proof.Arith
public import Idealize.ShloMosaic.Lib.ReduceAll

@[expose] public section

noncomputable section

namespace Cert.Proof

open Idealize.ShloMosaic
open Cert.Pre_real_state Cert.Pre_real_state.Gen

/-- An entry whose magnitude is below infinity is a real number. -/
theorem real_of_abs_lt {x : EReal} (h : (FloatOps.absf (F := Ideal) (φ := .f32) x : EReal) < Ideal.ofBits .f32 0x7F800000#32) :
    IsReal x := by
  have ht : Ideal.ofBits .f32 0x7F800000#32 = ⊤ := by simp [Ideal.ofBits, Ideal.ieee]
  rw [ht] at h
  induction x with
  | bot => exact absurd h (by show ¬ max ⊥ (-⊥) < (⊤ : EReal); simp)
  | top => exact absurd h (by show ¬ max ⊤ (-⊤) < (⊤ : EReal); simp)
  | coe r => exact ⟨r, rfl⟩

/-- A decided proposition whose bit is one holds. -/
theorem of_decide_one {p : Prop} [Decidable p] (h : BitVec.ofBool (decide p) = 1#1) : p := by
  by_contra hn
  simp [hn] at h

/-- An array whose magnitudes are all below infinity holds real numbers. -/
theorem real_of_all {s : Shape} {axes : List (Fin s.rank)} (x : FVec Ideal s .f32) (hb : S_.BroadcastsInDim s ![])
    (hr : s.ReducesTo axes S_) (e : Host.reduce IntOp.andi (cmpf .olt (Host.absf x) (broadcastInDim s ![] hb
      (constant S_ .f32 0x7F800000#32))) (constantI S_ 1 1#1) hr h_S_ default = 1#1) (i : s.Idx) : IsReal (x i) := by
  have h := Host.reduce_andi_all _ _ _ _ _ e i
  exact real_of_abs_lt (of_decide_one h)

/-- An array whose entries are all at least zero is not negative. -/
theorem nonneg_of_all {s : Shape} {axes : List (Fin s.rank)} (x : FVec Ideal s .f32) (hb : S_.BroadcastsInDim s ![])
    (hr : s.ReducesTo axes S_) (e : Host.reduce IntOp.andi (cmpf .oge x (broadcastInDim s ![] hb
      (constant S_ .f32 0x00000000#32))) (constantI S_ 1 1#1) hr h_S_ default = 1#1) (i : s.Idx) : 0 ≤ x i := by
  have h := Host.reduce_andi_all _ _ _ _ _ e i
  exact Ideal.ofBits_zero_f32 ▸ of_decide_one h

variable {a0 : FVec Ideal S256x256 .f32} {a1 : FVec Ideal S256x1024x256 .f32} {a2 a3 : FVec Ideal S256x1x1024 .f32}
  {a4 : FVec Ideal S1x256x256 .f32} {a5 a6 : FVec Ideal S768x256 .f32} {a7 a8 : FVec Ideal S768 .f32}
  {a9 : FVec Ideal S1292x256 .f32} {a10 : FVec Ideal S1292 .f32}

/-- The precondition, read back. -/
theorem real_state_read (h : Cert.Pre_real_state.fn (F := Ideal) a0 a1 a2 a3 a4 a5 a6 a7 a8 a9 a10 = fun _ => 1#1) :
    (∀ i, IsReal (a1 i)) ∧ (∀ i, IsReal (a4 i)) ∧ (∀ i, IsReal (a9 i)) ∧ (∀ i, IsReal (a10 i)) ∧ (∀ i, 0 ≤ a2 i) ∧ (∀ i, 0 ≤ a3 i) := by
  have h := congrFun h default
  dsimp only [fn, fn_part1] at h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨e1, e2⟩ := IntOp.andi_eq_one.1 h
  exact ⟨real_of_all _ _ _ e1, real_of_all _ _ _ e2, real_of_all _ _ _ e3, real_of_all _ _ _ e4, nonneg_of_all _ _ _ e5, nonneg_of_all _ _ _ e6⟩

end Cert.Proof
-- ==== Proof.lean ====
/- The proof of the claims: the three programs run to completion, the kernel's ideal form is the kernel, and under the
   precondition the kernel's four results are the reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_real_state
public import proofs.«01_k».proof.Proof.Agree
public import proofs.«01_k».proof.Proof.Precondition
public import Idealize.ShloMosaic.Adequacy
public import Idealize.ShloMosaic.Init

@[expose] public section

noncomputable section

namespace Cert.Proof

open Idealize.ShloMosaic Idealize.ShloMosaic.TcCoe Idealize.SL.Sem

/-- The reference runs to completion, leaves its arguments as they were and no semaphore raised. -/
theorem reference_frame [h : Cert.ReferenceIdeal.Facts] : Cert.quiescent_ReferenceIdeal := fun m ρ _ =>
  (θ_run Cert.ReferenceIdeal.defs _ _).mono
    (fun r h => ⟨fun c => (h c).2.2.2.2, sem_eq_zero_of_no_sems rfl r.2⟩)
    (Cert.ReferenceIdeal.Value.run (F := Ideal) m ρ)

/-- What the precondition says of the kernel's arguments is what the results' agreement takes of them. -/
theorem real_state_args {m : (ℓ : Loc Cert.KernelIdeal.nD Cert.KernelIdeal.τ Cert.KernelIdeal.sig) → Buf (Elt Ideal) ℓ}
    (h : Cert.Pre_KernelIdeal_real_state m) (c : Dev Cert.KernelIdeal.nD) : RealState m c := by
  obtain ⟨hm, hh, hpw, hpb, hr, hw⟩ := real_state_read (h c)
  exact ⟨fun _ _ _ => hm _, fun R j => heads_real hpw hpb (fun _ => hh _) j, fun _ _ => hr _, fun _ _ => hw _⟩

/-- From equal arguments that meet the precondition, the kernel and the reference leave equal results, all four. -/
theorem results_agree : Cert.algebraic_KernelIdeal_ReferenceIdeal_pre_real_state := by
  intro m g m' g' hpre hargs
  have hs : ∀ c, SameArgs m c (StableHlo.launchContents m' c) := fun c => by
    obtain ⟨h0, h1, h2, h3, h4, h5, h6, h7, h8, h9, h10⟩ := hargs c
    exact ⟨h0, h1, h2, h3, h4, h5, h6, h7, h8, h9, h10⟩
  refine ⟨kOut m, kNewMem m, kNewRead m, kNewWrite m, ?_, ?_⟩
  · refine (θ_run Cert.KernelIdeal.defs _ _).mono (fun r h c => ?_) (Cert.KernelIdeal.Value.run_blocks m g)
    obtain ⟨h0, h1, h2, h3, h⟩ := h c
    exact ⟨h0.trans (array_out m c), h1.trans (array_mem m c), h2.trans (array_read m c), h3.trans (array_write m c), h⟩
  · refine (θ_run Cert.ReferenceIdeal.defs _ _).mono (fun r h c => ?_) (Cert.ReferenceIdeal.Value.run (F := Ideal) m' g')
    obtain ⟨h0, h1, h2, h3, h⟩ := h c
    have hr := real_state_args hpre c
    exact ⟨h0.trans (out_agree (hs c)), h1.trans (memory_agree (hs c) hr), h2.trans (newRead_agree (hs c) hr),
      h3.trans (newWrite_agree (hs c) hr), h⟩

/-- Everything the statement claims. -/
theorem claim : Cert.Claim :=
  ⟨Cert.Kernel.Gen.facts, Cert.KernelIdeal.Gen.facts, Cert.ReferenceIdeal.Gen.facts, Cert.Pre_real_state.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, results_agree⟩

end Cert.Proof
